-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_state_nonneg [hPre_state_nonneg : Cert.Pre_state_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_state_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_state_nonneg [hPre_state_nonneg : Cert.Pre_state_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_state_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_state_nonneg [hKernelIdeal : Cert.KernelIdeal.Facts] [hPre_state_nonneg : Cert.Pre_state_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_state_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_state_nonneg [hReferenceIdeal : Cert.ReferenceIdeal.Facts] [hPre_state_nonneg : Cert.Pre_state_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_state_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_state_nonneg [hKernelIdeal : Cert.KernelIdeal.Facts] [hReferenceIdeal : Cert.ReferenceIdeal.Facts] [hPre_state_nonneg : Cert.Pre_state_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_state_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v119)) (v1 : (c : Dev Cert.KernelIdeal.nD) → Buf (Elt Ideal) ((c.tc : Thread Cert.KernelIdeal.nD Cert.KernelIdeal.τ).loc Cert.KernelIdeal.main_v125)) (v2 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_v121) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v12_3) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_state_nonneg : Cert.Pre_state_nonneg.Facts),
    quiescent_Kernel (hKernel := hKernel)
    ∧ quiescent_KernelIdeal (hKernelIdeal := hKernelIdeal)
    ∧ quiescent_KernelIdeal_pre_state_nonneg (hKernelIdeal := hKernelIdeal) (hPre_state_nonneg := hPre_state_nonneg)
    ∧ quiescent_ReferenceIdeal (hReferenceIdeal := hReferenceIdeal)
    ∧ quiescent_ReferenceIdeal_pre_state_nonneg (hReferenceIdeal := hReferenceIdeal) (hPre_state_nonneg := hPre_state_nonneg)
    ∧ preserves_Kernel_KernelIdeal
    ∧ algebraic_KernelIdeal_ReferenceIdeal_pre_state_nonneg (hKernelIdeal := hKernelIdeal) (hReferenceIdeal := hReferenceIdeal) (hPre_state_nonneg := hPre_state_nonneg)
-- ==== Pre_state_nonneg.lean ====
abbrev S16x2x2000x257x2 : Shape := ⟨5, ![16, 2, 2000, 257, 2]⟩
abbrev S16x1x257x1 : Shape := ⟨4, ![16, 1, 257, 1]⟩
abbrev S1x2x1x257x1 : Shape := ⟨5, ![1, 2, 1, 257, 1]⟩
abbrev S1x1x257x1 : Shape := ⟨4, ![1, 1, 257, 1]⟩
abbrev S_ : Shape := ⟨0, ![]⟩

class Facts : Prop where
  bcast_S_S16x1x257x1 : S_.BroadcastsInDim S16x1x257x1 (![] : Fin 0 → Fin S16x1x257x1.rank)

variable [Facts]

def fn {F : FTy → Type} [FloatOps F] (main_arg0 : FVec F S16x2x2000x257x2 .f32) (main_arg1 : FVec F S16x1x257x1 .f32) (main_arg2 : FVec F S1x2x1x257x1 .f32) (main_arg3 : FVec F S1x2x1x257x1 .f32) (main_arg4 : FVec F S1x1x257x1 .f32) : IVec S16x1x257x1 1 :=
  let main_cst : FVec F S_ .f32 := constant S_ .f32 0x00000000#32
  let main_v0 : FVec F S16x1x257x1 .f32 := broadcastInDim S16x1x257x1 ![] bcast_S_S16x1x257x1 main_cst
  let main_v1 : IVec S16x1x257x1 1 := cmpf .oge main_arg1 main_v0
  main_v1
-- ==== Kernel.lean ====
abbrev S16x2x2000x257x2 : Shape := ⟨5, ![16, 2, 2000, 257, 2]⟩
abbrev S16x1x257x1 : Shape := ⟨4, ![16, 1, 257, 1]⟩
abbrev S1x2x1x257x1 : Shape := ⟨5, ![1, 2, 1, 257, 1]⟩
abbrev S1x1x257x1 : Shape := ⟨4, ![1, 1, 257, 1]⟩
abbrev S2x16x2x257x2000 : Shape := ⟨5, ![2, 16, 2, 257, 2000]⟩
abbrev S257 : Shape := ⟨1, ![257]⟩
abbrev S_ : Shape := ⟨0, ![]⟩
abbrev S1024 : Shape := ⟨1, ![1024]⟩
abbrev S257x1 : Shape := ⟨2, ![257, 1]⟩
abbrev S1x1024 : Shape := ⟨2, ![1, 1024]⟩
abbrev S257x1024 : Shape := ⟨2, ![257, 1024]⟩
abbrev S1x257x1024 : Shape := ⟨3, ![1, 257, 1024]⟩
abbrev S10x257x1024 : Shape := ⟨3, ![10, 257, 1024]⟩
abbrev S16x257x1 : Shape := ⟨3, ![16, 257, 1]⟩
abbrev S16x257x128 : Shape := ⟨3, ![16, 257, 128]⟩
abbrev S2x257x1 : Shape := ⟨3, ![2, 257, 1]⟩
abbrev S2x257x128 : Shape := ⟨3, ![2, 257, 128]⟩
abbrev S16x257x2000 : Shape := ⟨3, ![16, 257, 2000]⟩
abbrev S1x1x2x257x1024 : Shape := ⟨5, ![1, 1, 2, 257, 1024]⟩
abbrev S1x257x128 : Shape := ⟨3, ![1, 257, 128]⟩
abbrev S2x1x2x257x1024 : Shape := ⟨5, ![2, 1, 2, 257, 1024]⟩
abbrev S257x128 : Shape := ⟨2, ![257, 128]⟩
abbrev S1x1x1x257x1024 : Shape := ⟨5, ![1, 1, 1, 257, 1024]⟩
abbrev S257x1023 : Shape := ⟨2, ![257, 1023]⟩
abbrev S257x2 : Shape := ⟨2, ![257, 2]⟩
abbrev S257x1022 : Shape := ⟨2, ![257, 1022]⟩
abbrev S257x4 : Shape := ⟨2, ![257, 4]⟩
abbrev S257x1020 : Shape := ⟨2, ![257, 1020]⟩
abbrev S257x8 : Shape := ⟨2, ![257, 8]⟩
abbrev S257x1016 : Shape := ⟨2, ![257, 1016]⟩
abbrev S257x16 : Shape := ⟨2, ![257, 16]⟩
abbrev S257x1008 : Shape := ⟨2, ![257, 1008]⟩
abbrev S257x32 : Shape := ⟨2, ![257, 32]⟩
abbrev S257x992 : Shape := ⟨2, ![257, 992]⟩
abbrev S257x64 : Shape := ⟨2, ![257, 64]⟩
abbrev S257x960 : Shape := ⟨2, ![257, 960]⟩
abbrev S257x896 : Shape := ⟨2, ![257, 896]⟩
abbrev S257x256 : Shape := ⟨2, ![257, 256]⟩
abbrev S257x768 : Shape := ⟨2, ![257, 768]⟩
abbrev S257x512 : Shape := ⟨2, ![257, 512]⟩
abbrev S2x257x1024 : Shape := ⟨3, ![2, 257, 1024]⟩
abbrev S16x2000x257 : Shape := ⟨3, ![16, 2000, 257]⟩
abbrev S16x1x2000x257x1 : Shape := ⟨5, ![16, 1, 2000, 257, 1]⟩
abbrev S16x257 : Shape := ⟨2, ![16, 257]⟩

abbrev nBuf : Space → Nat
  | .hbm => 205
  | .vmem => 16
  | .smem => 0
  | _ => 0

abbrev hbmTy0_0 (i : Nat) : BufTy := match i % 128 with
  | 0 => ⟨S16x2x2000x257x2, .f32⟩
  | 1 => ⟨S16x1x257x1, .f32⟩
  | 2 => ⟨S1x2x1x257x1, .f32⟩
  | 3 => ⟨S1x2x1x257x1, .f32⟩
  | 4 => ⟨S1x1x257x1, .f32⟩
  | 5 => ⟨S2x16x2x257x2000, .f32⟩
  | 6 => ⟨S257, .f32⟩
  | 7 => ⟨S257, .f32⟩
  | 8 => ⟨S257, .f32⟩
  | 9 => ⟨S_, .f32⟩
  | 10 => ⟨S257, .f32⟩
  | 11 => ⟨S257, .f32⟩
  | 12 => ⟨S_, .f32⟩
  | 13 => ⟨S257, .f32⟩
  | 14 => ⟨S257, .f32⟩
  | 15 => ⟨S257, .f32⟩
  | 16 => ⟨S257, .f32⟩
  | 17 => ⟨S1024, .f32⟩
  | 18 => ⟨S257x1, .f32⟩
  | 19 => ⟨S1x1024, .f32⟩
  | 20 => ⟨S_, .f32⟩
  | 21 => ⟨S1x1024, .f32⟩
  | 22 => ⟨S1x1024, .f32⟩
  | 23 => ⟨S257x1024, .f32⟩
  | 24 => ⟨S257x1024, .f32⟩
  | 25 => ⟨S257x1024, .f32⟩
  | 26 => ⟨S257x1024, .f32⟩
  | 27 => ⟨S1x1024, .f32⟩
  | 28 => ⟨S_, .f32⟩
  | 29 => ⟨S1x1024, .f32⟩
  | 30 => ⟨S1x1024, .i1⟩
  | 31 => ⟨S_, .f32⟩
  | 32 => ⟨S257, .f32⟩
  | 33 => ⟨S257, .f32⟩
  | 34 => ⟨S257, .f32⟩
  | 35 => ⟨S257x1, .f32⟩
  | 36 => ⟨S_, .f32⟩
  | 37 => ⟨S_, .f32⟩
  | 38 => ⟨S257x1024, .i1⟩
  | 39 => ⟨S257x1024, .f32⟩
  | 40 => ⟨S257x1024, .f32⟩
  | 41 => ⟨S257x1024, .f32⟩
  | 42 => ⟨S1x1024, .f32⟩
  | 43 => ⟨S_, .f32⟩
  | 44 => ⟨S1x1024, .f32⟩
  | 45 => ⟨S1x1024, .i1⟩
  | 46 => ⟨S_, .f32⟩
  | 47 => ⟨S257, .f32⟩
  | 48 => ⟨S257, .f32⟩
  | 49 => ⟨S257, .f32⟩
  | 50 => ⟨S257x1, .f32⟩
  | 51 => ⟨S_, .f32⟩
  | 52 => ⟨S_, .f32⟩
  | 53 => ⟨S257x1024, .i1⟩
  | 54 => ⟨S257x1024, .f32⟩
  | 55 => ⟨S257x1024, .f32⟩
  | 56 => ⟨S257x1024, .f32⟩
  | 57 => ⟨S1x1024, .f32⟩
  | 58 => ⟨S_, .f32⟩
  | 59 => ⟨S1x1024, .f32⟩
  | 60 => ⟨S1x1024, .i1⟩
  | 61 => ⟨S_, .f32⟩
  | 62 => ⟨S257, .f32⟩
  | 63 => ⟨S257, .f32⟩
  | 64 => ⟨S257, .f32⟩
  | 65 => ⟨S257x1, .f32⟩
  | 66 => ⟨S_, .f32⟩
  | 67 => ⟨S_, .f32⟩
  | 68 => ⟨S257x1024, .i1⟩
  | 69 => ⟨S257x1024, .f32⟩
  | 70 => ⟨S257x1024, .f32⟩
  | 71 => ⟨S257x1024, .f32⟩
  | 72 => ⟨S1x1024, .f32⟩
  | 73 => ⟨S_, .f32⟩
  | 74 => ⟨S1x1024, .f32⟩
  | 75 => ⟨S1x1024, .i1⟩
  | 76 => ⟨S_, .f32⟩
  | 77 => ⟨S257, .f32⟩
  | 78 => ⟨S257, .f32⟩
  | 79 => ⟨S257, .f32⟩
  | 80 => ⟨S257x1, .f32⟩
  | 81 => ⟨S_, .f32⟩
  | 82 => ⟨S_, .f32⟩
  | 83 => ⟨S257x1024, .i1⟩
  | 84 => ⟨S257x1024, .f32⟩
  | 85 => ⟨S257x1024, .f32⟩
  | 86 => ⟨S257x1024, .f32⟩
  | 87 => ⟨S1x1024, .f32⟩
  | 88 => ⟨S_, .f32⟩
  | 89 => ⟨S1x1024, .f32⟩
  | 90 => ⟨S1x1024, .i1⟩
  | 91 => ⟨S_, .f32⟩
  | 92 => ⟨S257, .f32⟩
  | 93 => ⟨S257, .f32⟩
  | 94 => ⟨S257, .f32⟩
  | 95 => ⟨S257x1, .f32⟩
  | 96 => ⟨S_, .f32⟩
  | 97 => ⟨S_, .f32⟩
  | 98 => ⟨S257x1024, .i1⟩
  | 99 => ⟨S257x1024, .f32⟩
  | 100 => ⟨S257x1024, .f32⟩
  | 101 => ⟨S257x1024, .f32⟩
  | 102 => ⟨S1x1024, .f32⟩
  | 103 => ⟨S_, .f32⟩
  | 104 => ⟨S1x1024, .f32⟩
  | 105 => ⟨S1x1024, .i1⟩
  | 106 => ⟨S_, .f32⟩
  | 107 => ⟨S257, .f32⟩
  | 108 => ⟨S257, .f32⟩
  | 109 => ⟨S257, .f32⟩
  | 110 => ⟨S257x1, .f32⟩
  | 111 => ⟨S_, .f32⟩
  | 112 => ⟨S_, .f32⟩
  | 113 => ⟨S257x1024, .i1⟩
  | 114 => ⟨S257x1024, .f32⟩
  | 115 => ⟨S257x1024, .f32⟩
  | 116 => ⟨S257x1024, .f32⟩
  | 117 => ⟨S1x1024, .f32⟩
  | 118 => ⟨S_, .f32⟩
  | 119 => ⟨S1x1024, .f32⟩
  | 120 => ⟨S1x1024, .i1⟩
  | 121 => ⟨S_, .f32⟩
  | 122 => ⟨S257, .f32⟩
  | 123 => ⟨S257, .f32⟩
  | 124 => ⟨S257, .f32⟩
  | 125 => ⟨S257x1, .f32⟩
  | 126 => ⟨S_, .f32⟩
  | 127 => ⟨S_, .f32⟩
  | _ => ⟨S16x2x2000x257x2, .f32⟩

abbrev hbmTy0_1 (i : Nat) : BufTy := match i % 128 with
  | 0 => ⟨S257x1024, .i1⟩
  | 1 => ⟨S257x1024, .f32⟩
  | 2 => ⟨S257x1024, .f32⟩
  | 3 => ⟨S257x1024, .f32⟩
  | 4 => ⟨S1x1024, .f32⟩
  | 5 => ⟨S_, .f32⟩
  | 6 => ⟨S1x1024, .f32⟩
  | 7 => ⟨S1x1024, .i1⟩
  | 8 => ⟨S_, .f32⟩
  | 9 => ⟨S257, .f32⟩
  | 10 => ⟨S257, .f32⟩
  | 11 => ⟨S257, .f32⟩
  | 12 => ⟨S257x1, .f32⟩
  | 13 => ⟨S_, .f32⟩
  | 14 => ⟨S_, .f32⟩
  | 15 => ⟨S257x1024, .i1⟩
  | 16 => ⟨S257x1024, .f32⟩
  | 17 => ⟨S257x1024, .f32⟩
  | 18 => ⟨S257x1024, .f32⟩
  | 19 => ⟨S1x1024, .f32⟩
  | 20 => ⟨S_, .f32⟩
  | 21 => ⟨S1x1024, .f32⟩
  | 22 => ⟨S1x1024, .i1⟩
  | 23 => ⟨S_, .f32⟩
  | 24 => ⟨S257, .f32⟩
  | 25 => ⟨S257, .f32⟩
  | 26 => ⟨S257, .f32⟩
  | 27 => ⟨S257x1, .f32⟩
  | 28 => ⟨S_, .f32⟩
  | 29 => ⟨S_, .f32⟩
  | 30 => ⟨S257x1024, .i1⟩
  | 31 => ⟨S257x1024, .f32⟩
  | 32 => ⟨S257x1024, .f32⟩
  | 33 => ⟨S257x1024, .f32⟩
  | 34 => ⟨S1x1024, .f32⟩
  | 35 => ⟨S_, .f32⟩
  | 36 => ⟨S1x1024, .f32⟩
  | 37 => ⟨S1x1024, .i1⟩
  | 38 => ⟨S_, .f32⟩
  | 39 => ⟨S257, .f32⟩
  | 40 => ⟨S257, .f32⟩
  | 41 => ⟨S257, .f32⟩
  | 42 => ⟨S257x1, .f32⟩
  | 43 => ⟨S_, .f32⟩
  | 44 => ⟨S_, .f32⟩
  | 45 => ⟨S257x1024, .i1⟩
  | 46 => ⟨S257x1024, .f32⟩
  | 47 => ⟨S257x1024, .f32⟩
  | 48 => ⟨S257x1024, .f32⟩
  | 49 => ⟨S1x257x1024, .f32⟩
  | 50 => ⟨S1x257x1024, .f32⟩
  | 51 => ⟨S1x257x1024, .f32⟩
  | 52 => ⟨S1x257x1024, .f32⟩
  | 53 => ⟨S1x257x1024, .f32⟩
  | 54 => ⟨S1x257x1024, .f32⟩
  | 55 => ⟨S1x257x1024, .f32⟩
  | 56 => ⟨S1x257x1024, .f32⟩
  | 57 => ⟨S1x257x1024, .f32⟩
  | 58 => ⟨S1x257x1024, .f32⟩
  | 59 => ⟨S10x257x1024, .f32⟩
  | 60 => ⟨S257x1, .f32⟩
  | 61 => ⟨S257x1024, .f32⟩
  | 62 => ⟨S16x257x1, .f32⟩
  | 63 => ⟨S16x257x128, .f32⟩
  | 64 => ⟨S2x257x1, .f32⟩
  | 65 => ⟨S2x257x128, .f32⟩
  | 66 => ⟨S2x257x1, .f32⟩
  | 67 => ⟨S2x257x128, .f32⟩
  | 68 => ⟨S2x16x2x257x2000, .f32⟩
  | 69 => ⟨S16x257x2000, .f32⟩
  | 70 => ⟨S16x2x2000x257x2, .f32⟩
  | 71 => ⟨S16x2000x257, .f32⟩
  | 72 => ⟨S16x1x2000x257x1, .f32⟩
  | 73 => ⟨S16x257x1, .f32⟩
  | 74 => ⟨S16x257, .f32⟩
  | 75 => ⟨S16x257, .f32⟩
  | 76 => ⟨S16x1x257x1, .f32⟩
  | _ => ⟨S16x2x2000x257x2, .f32⟩

abbrev hbmTy (i : Nat) : BufTy := match i / 128 with
  | 0 => hbmTy0_0 i
  | 1 => hbmTy0_1 i
  | _ => ⟨S16x2x2000x257x2, .f32⟩

abbrev bufTy : (tb : Table) → Fin (tcTables nBuf tb) → BufTy
  | .hbm, ⟨i, _⟩ => hbmTy i
  | .local _ .vmem, ⟨0, _⟩ => ⟨S1x1x2x257x1024, .f32⟩
  | .local _ .vmem, ⟨1, _⟩ => ⟨S1x1x2x257x1024, .f32⟩
  | .local _ .vmem, ⟨2, _⟩ => ⟨S1x1x2x257x1024, .f32⟩
  | .local _ .vmem, ⟨3, _⟩ => ⟨S1x1x2x257x1024, .f32⟩
  | .local _ .vmem, ⟨4, _⟩ => ⟨S1x257x128, .f32⟩
  | .local _ .vmem, ⟨5, _⟩ => ⟨S1x257x128, .f32⟩
  | .local _ .vmem, ⟨6, _⟩ => ⟨S257x1024, .f32⟩
  | .local _ .vmem, ⟨7, _⟩ => ⟨S257x1024, .f32⟩
  | .local _ .vmem, ⟨8, _⟩ => ⟨S10x257x1024, .f32⟩
  | .local _ .vmem, ⟨9, _⟩ => ⟨S2x257x128, .f32⟩
  | .local _ .vmem, ⟨10, _⟩ => ⟨S2x257x128, .f32⟩
  | .local _ .vmem, ⟨11, _⟩ => ⟨S2x1x2x257x1024, .f32⟩
  | .local _ .vmem, ⟨12, _⟩ => ⟨S2x1x2x257x1024, .f32⟩
  | .local _ .vmem, ⟨13, _⟩ => ⟨S1x257x1024, .f32⟩
  | .local _ .vmem, ⟨14, _⟩ => ⟨S1x257x1024, .f32⟩
  | .local _ .vmem, ⟨15, _⟩ => ⟨S257x1024, .f32⟩
  | _, _ => ⟨S16x2x2000x257x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_v42 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_13 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_v50 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_cst_15 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_16 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_v58 : Ref sig .tc := ⟨.hbm, 101, rfl⟩
abbrev main_v59 : Ref sig .tc := ⟨.hbm, 102, rfl⟩
abbrev main_cst_17 : Ref sig .tc := ⟨.hbm, 103, rfl⟩
abbrev main_v60 : Ref sig .tc := ⟨.hbm, 104, rfl⟩
abbrev main_v61 : Ref sig .tc := ⟨.hbm, 105, rfl⟩
abbrev main_cst_18 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_19 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_v66 : Ref sig .tc := ⟨.hbm, 116, rfl⟩
abbrev main_v67 : Ref sig .tc := ⟨.hbm, 117, rfl⟩
abbrev main_cst_20 : Ref sig .tc := ⟨.hbm, 118, rfl⟩
abbrev main_v68 : Ref sig .tc := ⟨.hbm, 119, rfl⟩
abbrev main_v69 : Ref sig .tc := ⟨.hbm, 120, rfl⟩
abbrev main_cst_21 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_22 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_v74 : Ref sig .tc := ⟨.hbm, 131, rfl⟩
abbrev main_v75 : Ref sig .tc := ⟨.hbm, 132, rfl⟩
abbrev main_cst_23 : Ref sig .tc := ⟨.hbm, 133, rfl⟩
abbrev main_v76 : Ref sig .tc := ⟨.hbm, 134, rfl⟩
abbrev main_v77 : Ref sig .tc := ⟨.hbm, 135, rfl⟩
abbrev main_cst_24 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_25 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_v82 : Ref sig .tc := ⟨.hbm, 146, rfl⟩
abbrev main_v83 : Ref sig .tc := ⟨.hbm, 147, rfl⟩
abbrev main_cst_26 : Ref sig .tc := ⟨.hbm, 148, rfl⟩
abbrev main_v84 : Ref sig .tc := ⟨.hbm, 149, rfl⟩
abbrev main_v85 : Ref sig .tc := ⟨.hbm, 150, rfl⟩
abbrev main_cst_27 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_cst_28 : Ref sig .tc := ⟨.hbm, 156, rfl⟩
abbrev main_call8_v0 : Ref sig .tc := ⟨.hbm, 157, rfl⟩
abbrev main_call8_v1 : Ref sig .tc := ⟨.hbm, 158, rfl⟩
abbrev main_call8_v2 : Ref sig .tc := ⟨.hbm, 159, rfl⟩
abbrev main_call8_v3 : Ref sig .tc := ⟨.hbm, 160, rfl⟩
abbrev main_v90 : Ref sig .tc := ⟨.hbm, 161, rfl⟩
abbrev main_v91 : Ref sig .tc := ⟨.hbm, 162, rfl⟩
abbrev main_cst_29 : Ref sig .tc := ⟨.hbm, 163, rfl⟩
abbrev main_v92 : Ref sig .tc := ⟨.hbm, 164, rfl⟩
abbrev main_v93 : Ref sig .tc := ⟨.hbm, 165, rfl⟩
abbrev main_cst_30 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_cst_31 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_call9_v3 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118_0 : Ref sig .tc := ⟨.hbm, 196, rfl⟩
abbrev main_v118_1 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat, arg1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2x257x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x257x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x257x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S257x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S257x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S10x257x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x257x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x257x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x1x2x257x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x257x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2x2000x257x2 : Shape := ⟨5, ![16, 2, 2000, 257, 2]⟩
abbrev S16x1x257x1 : Shape := ⟨4, ![16, 1, 257, 1]⟩
abbrev S1x2x1x257x1 : Shape := ⟨5, ![1, 2, 1, 257, 1]⟩
abbrev S1x1x257x1 : Shape := ⟨4, ![1, 1, 257, 1]⟩
abbrev S_ : Shape := ⟨0, ![]⟩
abbrev S16x2x2000x257 : Shape := ⟨4, ![16, 2, 2000, 257]⟩
abbrev S16x2x2000x257x1 : Shape := ⟨5, ![16, 2, 2000, 257, 1]⟩
abbrev S16x1x2000x257x1 : Shape := ⟨5, ![16, 1, 2000, 257, 1]⟩
abbrev S2000x16x1x257x1 : Shape := ⟨5, ![2000, 16, 1, 257, 1]⟩
abbrev S1x16x1x257x1 : Shape := ⟨5, ![1, 16, 1, 257, 1]⟩

abbrev nBuf : Space → Nat
  | .hbm => 65
  | .vmem => 0
  | .smem => 0
  | _ => 0

abbrev bufTy : (tb : Table) → Fin (tcTables nBuf tb) → BufTy
  | .hbm, ⟨0, _⟩ => ⟨S16x2x2000x257x2, .f32⟩
  | .hbm, ⟨1, _⟩ => ⟨S16x1x257x1, .f32⟩
  | .hbm, ⟨2, _⟩ => ⟨S1x2x1x257x1, .f32⟩
  | .hbm, ⟨3, _⟩ => ⟨S1x2x1x257x1, .f32⟩
  | .hbm, ⟨4, _⟩ => ⟨S1x1x257x1, .f32⟩
  | .hbm, ⟨5, _⟩ => ⟨S16x2x2000x257x2, .f32⟩
  | .hbm, ⟨6, _⟩ => ⟨S_, .f32⟩
  | .hbm, ⟨7, _⟩ => ⟨S16x2x2000x257, .f32⟩
  | .hbm, ⟨8, _⟩ => ⟨S16x2x2000x257x1, .f32⟩
  | .hbm, ⟨9, _⟩ => ⟨S1x1x257x1, .f32⟩
  | .hbm, ⟨10, _⟩ => ⟨S1x1x257x1, .f32⟩
  | .hbm, ⟨11, _⟩ => ⟨S_, .f32⟩
  | .hbm, ⟨12, _⟩ => ⟨S1x1x257x1, .f32⟩
  | .hbm, ⟨13, _⟩ => ⟨S1x1x257x1, .f32⟩
  | .hbm, ⟨14, _⟩ => ⟨S_, .f32⟩
  | .hbm, ⟨15, _⟩ => ⟨S1x1x257x1, .f32⟩
  | .hbm, ⟨16, _⟩ => ⟨S1x1x257x1, .f32⟩
  | .hbm, ⟨17, _⟩ => ⟨S16x1x2000x257x1, .f32⟩
  | .hbm, ⟨18, _⟩ => ⟨S2000x16x1x257x1, .f32⟩
  | .hbm, ⟨19, _⟩ => ⟨S_, .f32⟩
  | .hbm, ⟨20, _⟩ => ⟨S2000x16x1x257x1, .f32⟩
  | .hbm, ⟨21, _⟩ => ⟨S_, .i32⟩
  | .hbm, ⟨22, _⟩ => ⟨S2000x16x1x257x1, .f32⟩
  | .hbm, ⟨23, _⟩ => ⟨S1x1x257x1, .f32⟩
  | .hbm, ⟨24, _⟩ => ⟨S_, .i32⟩
  | .hbm, ⟨25, _⟩ => ⟨S16x1x257x1, .f32⟩
  | .hbm, ⟨26, _⟩ => ⟨S2000x16x1x257x1, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x16x1x257x1, .f32⟩
  | .hbm, ⟨34, _⟩ => ⟨S16x1x257x1, .f32⟩
  | .hbm, ⟨35, _⟩ => ⟨S_, .f32⟩
  | .hbm, ⟨36, _⟩ => ⟨S1x1x257x1, .f32⟩
  | .hbm, ⟨37, _⟩ => ⟨S1x1x257x1, .f32⟩
  | .hbm, ⟨38, _⟩ => ⟨S16x1x257x1, .f32⟩
  | .hbm, ⟨39, _⟩ => ⟨S16x1x257x1, .f32⟩
  | .hbm, ⟨40, _⟩ => ⟨S16x1x257x1, .f32⟩
  | .hbm, ⟨41, _⟩ => ⟨S16x1x257x1, .f32⟩
  | .hbm, ⟨42, _⟩ => ⟨S16x1x257x1, .f32⟩
  | .hbm, ⟨43, _⟩ => ⟨S1x16x1x257x1, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S2000x16x1x257x1, .f32⟩
  | .hbm, ⟨49, _⟩ => ⟨S_, .i32⟩
  | .hbm, ⟨50, _⟩ => ⟨S_, .i32⟩
  | .hbm, ⟨51, _⟩ => ⟨S16x1x2000x257x1, .f32⟩
  | .hbm, ⟨52, _⟩ => ⟨S16x1x2000x257x1, .f32⟩
  | .hbm, ⟨53, _⟩ => ⟨S16x1x2000x257x1, .f32⟩
  | .hbm, ⟨54, _⟩ => ⟨S16x1x2000x257x1, .f32⟩
  | .hbm, ⟨55, _⟩ => ⟨S16x2x2000x257x1, .f32⟩
  | .hbm, ⟨56, _⟩ => ⟨S_, .f32⟩
  | .hbm, ⟨57, _⟩ => ⟨S16x2x2000x257x1, .f32⟩
  | .hbm, ⟨58, _⟩ => ⟨S16x2x2000x257x1, .f32⟩
  | .hbm, ⟨59, _⟩ => ⟨S16x2x2000x257x2, .f32⟩
  | .hbm, ⟨60, _⟩ => ⟨S16x2x2000x257x2, .f32⟩
  | .hbm, ⟨61, _⟩ => ⟨S16x2x2000x257x2, .f32⟩
  | .hbm, ⟨62, _⟩ => ⟨S16x2x2000x257x2, .f32⟩
  | .hbm, ⟨63, _⟩ => ⟨S16x2x2000x257x2, .f32⟩
  | .hbm, ⟨64, _⟩ => ⟨S16x2x2000x257x2, .f32⟩
  | _, _ => ⟨S16x2x2000x257x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_c : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_while0c_c_8 : Ref sig .tc := ⟨.hbm, 27, rfl⟩
abbrev main_while0c_v26 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_c_2 : Ref sig .tc := ⟨.hbm, 32, rfl⟩
abbrev main_while0b_call0_v0 : Ref sig .tc := ⟨.hbm, 33, rfl⟩
abbrev main_while0b_v26 : Ref sig .tc := ⟨.hbm, 34, rfl⟩
abbrev main_while0b_cst_8 : Ref sig .tc := ⟨.hbm, 35, rfl⟩
abbrev main_while0b_v27 : Ref sig .tc := ⟨.hbm, 36, rfl⟩
abbrev main_while0b_v28 : Ref sig .tc := ⟨.hbm, 37, rfl⟩
abbrev main_while0b_v29 : Ref sig .tc := ⟨.hbm, 38, rfl⟩
abbrev main_while0b_v30 : Ref sig .tc := ⟨.hbm, 39, rfl⟩
abbrev main_while0b_v31 : Ref sig .tc := ⟨.hbm, 40, rfl⟩
abbrev main_while0b_v32 : Ref sig .tc := ⟨.hbm, 41, rfl⟩
abbrev main_while0b_v33 : Ref sig .tc := ⟨.hbm, 42, rfl⟩
abbrev main_while0b_call1_v0 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_v34 : Ref sig .tc := ⟨.hbm, 48, rfl⟩
abbrev main_while0b_c_9 : Ref sig .tc := ⟨.hbm, 49, rfl⟩
abbrev main_while0b_v35 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩

abbrev nD : Nat := 1
abbrev τ : Topo := Topo.v7x

variable {F : FTy → Type} [FloatOps F]

abbrev main_while0_count : Scf.Loop 32 := ⟨0#32, 2000#32, 1#32⟩
-- ==== Proof.IdealRun.lean ====
/-
  One run of the kernel body. Whatever the ten staged blocks and the carry table hold, the body ends with the eight
  input blocks as they were, the two output blocks and the carry at the values named here: `blockState` is the smoothed
  power of the block before the square root, `blockRoot` its root, `carryOut` the row of last lanes handed to the next
  time block, `resOut` the normalised block.
-/
module

public import proofs.«01_k».proof.Proof.Gen.KernelIdeal.Frame
public import proofs.«01_k».proof.Proof.Gen.KernelIdeal.Skeleton
public import Idealize.ShloMosaic.Lib.Tactic
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The branch of the kernel's conditional: the time block is the first. -/
abbrev firstBlock (i : grid0.Coords) : Prop :=
  Scalar.cmpi .ne (Scalar.extui (Scalar.cmpi .eq (BitVec.ofNat 32 (i 1).val) 0#32)) 0#32 = 1#1

/-- Plane `ch` (0 or 1) of an input block, as the body loads it. -/
abbrev plane0 (X : Vec F S1x1x2x257x1024 .f32) : Vec F S1x1x1x257x1024 .f32 :=
  View.ld (Val := Elt F) X (Rect.unit (s := S1x1x2x257x1024) ![0, 0, 0, 0, 0] S1x1x1x257x1024.size inb_S1x1x2x257x1024_S1x1x1x257x1024_0_0_0_0_0)
abbrev plane1 (X : Vec F S1x1x2x257x1024 .f32) : Vec F S1x1x1x257x1024 .f32 :=
  View.ld (Val := Elt F) X (Rect.unit (s := S1x1x2x257x1024) ![0, 0, 1, 0, 0] S1x1x1x257x1024.size inb_S1x1x2x257x1024_S1x1x1x257x1024_0_0_1_0_0)
/-- Table 0 of the decay factors. -/
abbrev decay0 (X : Vec F S10x257x1024 .f32) : Vec F S1x257x1024 .f32 :=
  View.ld (Val := Elt F) X (Rect.unit (s := S10x257x1024) ![0, 0, 0] S1x257x1024.size inb_S10x257x1024_S1x257x1024_0_0_0)
/-- Table 1 of the decay factors. -/
abbrev decay1 (X : Vec F S10x257x1024 .f32) : Vec F S1x257x1024 .f32 :=
  View.ld (Val := Elt F) X (Rect.unit (s := S10x257x1024) ![1, 0, 0] S1x257x1024.size inb_S10x257x1024_S1x257x1024_1_0_0)
/-- Table 2 of the decay factors. -/
abbrev decay2 (X : Vec F S10x257x1024 .f32) : Vec F S1x257x1024 .f32 :=
  View.ld (Val := Elt F) X (Rect.unit (s := S10x257x1024) ![2, 0, 0] S1x257x1024.size inb_S10x257x1024_S1x257x1024_2_0_0)
/-- Table 3 of the decay factors. -/
abbrev decay3 (X : Vec F S10x257x1024 .f32) : Vec F S1x257x1024 .f32 :=
  View.ld (Val := Elt F) X (Rect.unit (s := S10x257x1024) ![3, 0, 0] S1x257x1024.size inb_S10x257x1024_S1x257x1024_3_0_0)
/-- Table 4 of the decay factors. -/
abbrev decay4 (X : Vec F S10x257x1024 .f32) : Vec F S1x257x1024 .f32 :=
  View.ld (Val := Elt F) X (Rect.unit (s := S10x257x1024) ![4, 0, 0] S1x257x1024.size inb_S10x257x1024_S1x257x1024_4_0_0)
/-- Table 5 of the decay factors. -/
abbrev decay5 (X : Vec F S10x257x1024 .f32) : Vec F S1x257x1024 .f32 :=
  View.ld (Val := Elt F) X (Rect.unit (s := S10x257x1024) ![5, 0, 0] S1x257x1024.size inb_S10x257x1024_S1x257x1024_5_0_0)
/-- Table 6 of the decay factors. -/
abbrev decay6 (X : Vec F S10x257x1024 .f32) : Vec F S1x257x1024 .f32 :=
  View.ld (Val := Elt F) X (Rect.unit (s := S10x257x1024) ![6, 0, 0] S1x257x1024.size inb_S10x257x1024_S1x257x1024_6_0_0)
/-- Table 7 of the decay factors. -/
abbrev decay7 (X : Vec F S10x257x1024 .f32) : Vec F S1x257x1024 .f32 :=
  View.ld (Val := Elt F) X (Rect.unit (s := S10x257x1024) ![7, 0, 0] S1x257x1024.size inb_S10x257x1024_S1x257x1024_7_0_0)
/-- Table 8 of the decay factors. -/
abbrev decay8 (X : Vec F S10x257x1024 .f32) : Vec F S1x257x1024 .f32 :=
  View.ld (Val := Elt F) X (Rect.unit (s := S10x257x1024) ![8, 0, 0] S1x257x1024.size inb_S10x257x1024_S1x257x1024_8_0_0)
/-- Table 9 of the decay factors. -/
abbrev decay9 (X : Vec F S10x257x1024 .f32) : Vec F S1x257x1024 .f32 :=
  View.ld (Val := Elt F) X (Rect.unit (s := S10x257x1024) ![9, 0, 0] S1x257x1024.size inb_S10x257x1024_S1x257x1024_9_0_0)

/-- The block's weighted power (0 past the end of time), then the first six and all ten doubling steps. -/
def weighted (i : grid0.Coords) (X2 X3 : Vec F S1x1x2x257x1024 .f32) (X5 : Vec F S257x1024 .f32) : FVec F S257x1024 .f32 :=
  k0_pay9 i (plane0 X2) (plane0 X3) X5
def sixSteps (w : FVec F S257x1024 .f32) (X7 : Vec F S10x257x1024 .f32) : FVec F S257x1024 .f32 :=
  k0_pay10 w (decay0 X7) (decay1 X7) (decay2 X7) (decay3 X7) (decay4 X7) (decay5 X7)
/-- The carry the block starts from: the given state in the first time block, what the block before left otherwise. -/
def carryIn (i : grid0.Coords) (X4 : Vec F S1x257x128 .f32) (C : Vec F S257x1024 .f32) : Vec F S257x1024 .f32 :=
  if firstBlock i then k0_pay3 X4 else C
/-- The carry after a block, from its weighted power `w` and the carry `C` before it. -/
def carryOut (w : FVec F S257x1024 .f32) (X6 : Vec F S257x1024 .f32) (X7 : Vec F S10x257x1024 .f32) (C : Vec F S257x1024 .f32) :
    FVec F S257x1024 .f32 :=
  k0_pay12 (sixSteps w X7) (decay6 X7) (decay7 X7) (decay8 X7) (decay9 X7) X6 C
/-- The root of the smoothed power. -/
def blockRoot (w : FVec F S257x1024 .f32) (X6 : Vec F S257x1024 .f32) (X7 : Vec F S10x257x1024 .f32) (C : Vec F S257x1024 .f32) :
    FVec F S257x1024 .f32 :=
  k0_pay13 (sixSteps w X7) (decay6 X7) (decay7 X7) (decay8 X7) (decay9 X7) X6 C
/-- The smoothed block as it is stored. -/
def smoothOut (root : FVec F S257x1024 .f32) : Vec F S1x257x1024 .f32 := k0_pay14 root

/-- The four stores into the normalised block: channel 0 real and imaginary, channel 1 real and imaginary (the last first). -/
def resPieces (root : FVec F S257x1024 .f32) (X2 X3 : Vec F S1x1x2x257x1024 .f32) (X8 X9 : Vec F S2x257x128 .f32) :
    List (View.Piece (Elt F) S2x1x2x257x1024 .f32) :=
  [⟨Rect.unit (s := S2x1x2x257x1024) ![1, 0, 1, 0, 0] S1x1x1x257x1024.size inb_S2x1x2x257x1024_S1x1x1x257x1024_1_0_1_0_0,
      k0_pay2 (k0_pay7 (plane1 X3)) (k0_pay16 X9) (k0_pay18 (k0_pay8 (plane1 X2) (plane1 X3)) X8)⟩,
    ⟨Rect.unit (s := S2x1x2x257x1024) ![0, 0, 1, 0, 0] S1x1x1x257x1024.size inb_S2x1x2x257x1024_S1x1x1x257x1024_0_0_1_0_0,
      k0_pay1 (k0_pay6 (plane1 X2)) (k0_pay16 X9) (k0_pay18 (k0_pay8 (plane1 X2) (plane1 X3)) X8)⟩,
    ⟨Rect.unit (s := S2x1x2x257x1024) ![1, 0, 0, 0, 0] S1x1x1x257x1024.size inb_S2x1x2x257x1024_S1x1x1x257x1024_1_0_0_0_0,
      k0_pay20 (k0_pay5 (plane0 X3)) root X8 X9⟩,
    ⟨Rect.unit (s := S2x1x2x257x1024) ![0, 0, 0, 0, 0] S1x1x1x257x1024.size inb_S2x1x2x257x1024_S1x1x1x257x1024_0_0_0_0_0,
      k0_pay19 (k0_pay4 (plane0 X2)) root X8 X9⟩]
/-- The normalised block. -/
def resOut (root : FVec F S257x1024 .f32) (X2 X3 : Vec F S1x1x2x257x1024 .f32) (X8 X9 : Vec F S2x257x128 .f32) :
    Vec F S2x1x2x257x1024 .f32 := View.canon (resPieces root X2 X3 X8 X9)

/-- The four stores fill the block. -/
theorem resPieces_cover (root : FVec F S257x1024 .f32) (X2 X3 : Vec F S1x1x2x257x1024 .f32) (X8 X9 : Vec F S2x257x128 .f32)
    (y : S2x1x2x257x1024.Idx) : ∃ p ∈ resPieces root X2 X3 X8 X9, y ∈ p.1.set :=
  View.cover_of_tiled (s := S2x1x2x257x1024) _ S1x1x1x257x1024.size (by rfl) y

/-- The two offset spellings of "the whole block". -/
theorem off2 : (![0, 0] : Fin 2 → ℕ) = fun _ => 0 := funext fun a => by fin_cases a <;> rfl
theorem off3 : (![0, 0, 0] : Fin 3 → ℕ) = fun _ => 0 := funext fun a => by fin_cases a <;> rfl

/-- A load of a whole block reads the block. -/
theorem ld_plane (X : Vec F S257x1024 .f32) (inb) :
    View.ld (Val := Elt F) X (Rect.unit (s := S257x1024) ![0, 0] ![257, 1024] inb) = X := View.ld_unit_zero (S := S257x1024) off2 inb X
theorem ld_pair (X : Vec F S2x257x128 .f32) (inb) :
    View.ld (Val := Elt F) X (Rect.unit (s := S2x257x128) ![0, 0, 0] ![2, 257, 128] inb) = X := View.ld_unit_zero (S := S2x257x128) off3 inb X
theorem ld_row (X : Vec F S1x257x128 .f32) (inb) :
    View.ld (Val := Elt F) X (Rect.unit (s := S1x257x128) ![0, 0, 0] ![1, 257, 128] inb) = X := View.ld_unit_zero (S := S1x257x128) off3 inb X

/-- What reads back after a store over a whole buffer, whatever was stored before. -/
theorem read_store {S : Shape} (v : View sig .tc .vmem S .f32) (f : v.ty.Idx → Elt F v.ty.elt) {off : Fin S.rank → ℕ} (h : off = fun _ => 0)
    (inb : ∀ a, off a + S.size a ≤ S.size a) (w : Vec F S .f32) (L : List (View.Piece (Elt F) S .f32)) :
    v.read (Elt F) (v.writes (Elt F) f ((⟨Rect.unit off S.size inb, w⟩ : View.Piece (Elt F) S .f32) :: L)) = w :=
  (View.read_writes_eq_canon v f _ fun y => ⟨_, List.mem_cons_self, View.mem_set_unit_zero h inb y⟩).trans
    (View.canon_cons_unit_zero h inb w L)
theorem read_store_plane (v : View sig .tc .vmem S257x1024 .f32) (f : v.ty.Idx → Elt F v.ty.elt) (inb) (w : Vec F S257x1024 .f32)
    (L : List (View.Piece (Elt F) S257x1024 .f32)) :
    v.read (Elt F) (v.writes (Elt F) f ((⟨Rect.unit (s := S257x1024) ![0, 0] ![257, 1024] inb, w⟩ : View.Piece (Elt F) S257x1024 .f32) :: L)) = w :=
  read_store v f off2 inb w L
theorem read_store_lane (v : View sig .tc .vmem S1x257x1024 .f32) (f : v.ty.Idx → Elt F v.ty.elt) (inb) (w : Vec F S1x257x1024 .f32)
    (L : List (View.Piece (Elt F) S1x257x1024 .f32)) :
    v.read (Elt F) (v.writes (Elt F) f ((⟨Rect.unit (s := S1x257x1024) ![0, 0, 0] ![1, 257, 1024] inb, w⟩ : View.Piece (Elt F) S1x257x1024 .f32) :: L)) = w :=
  read_store v f off3 inb w L

/-- What the carry table reads when the smoothed power is formed. -/
theorem carry_read (i : grid0.Coords) (v : View sig .tc .vmem S257x1024 .f32) (f : v.ty.Idx → Elt F v.ty.elt) (inb) (X4 : Vec F S1x257x128 .f32)
    [Decidable (firstBlock i)] :
    View.read (Elt F) v
      (if hc : Scalar.cmpi CmpIPredicate.ne (Scalar.extui (Scalar.cmpi CmpIPredicate.eq (BitVec.ofNat 32 ↑(i 1)) 0#32)) 0#32 = 1#1 then
        v.writes (Elt F) f [⟨Rect.unit (s := S257x1024) ![0, 0] ![257, 1024] inb, k0_pay3 X4⟩]
      else f) = carryIn i X4 (View.read (Elt F) v f) := by
  unfold carryIn
  by_cases hc : firstBlock i
  · rw [dif_pos hc, if_pos hc]; exact read_store_plane v f inb _ []
  · rw [dif_neg hc, if_neg hc]

set_option maxHeartbeats 400000 in
/-- The body's triple. -/
theorem kernel_run (c : Dev nD) (i : grid0.Coords)
    (arg2 : Memref sig .tc .vmem S1x1x2x257x1024 .f32) (harg2 : arg2.IsWhole)
    (arg3 : Memref sig .tc .vmem S1x1x2x257x1024 .f32) (harg3 : arg3.IsWhole)
    (arg4 : Memref sig .tc .vmem S1x257x128 .f32) (harg4 : arg4.IsWhole)
    (arg5 : Memref sig .tc .vmem S257x1024 .f32) (harg5 : arg5.IsWhole)
    (arg6 : Memref sig .tc .vmem S257x1024 .f32) (harg6 : arg6.IsWhole)
    (arg7 : Memref sig .tc .vmem S10x257x1024 .f32) (harg7 : arg7.IsWhole)
    (arg8 : Memref sig .tc .vmem S2x257x128 .f32) (harg8 : arg8.IsWhole)
    (arg9 : Memref sig .tc .vmem S2x257x128 .f32) (harg9 : arg9.IsWhole)
    (arg10 : Memref sig .tc .vmem S2x1x2x257x1024 .f32) (harg10 : arg10.IsWhole)
    (arg11 : Memref sig .tc .vmem S1x257x1024 .f32) (harg11 : arg11.IsWhole)
    (arg12 : Memref sig .tc .vmem S257x1024 .f32) (harg12 : arg12.IsWhole)
    (X2 : Vec F S1x1x2x257x1024 .f32) (X3 : Vec F S1x1x2x257x1024 .f32) (X4 : Vec F S1x257x128 .f32) (X5 : Vec F S257x1024 .f32) (X6 : Vec F S257x1024 .f32) (X7 : Vec F S10x257x1024 .f32) (X8 : Vec F S2x257x128 .f32) (X9 : Vec F S2x257x128 .f32) (X12 : Vec F S257x1024 .f32)
    (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9
        ∗ (∃ X, owns (c : Thread nD τ) arg10 fullShare X) ∗ (∃ X, owns (c : Thread nD τ) arg11 fullShare X)
        ∗ owns (c : Thread nD τ) arg12 fullShare X12
        ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9
            ∗ owns (c : Thread nD τ) arg10 fullShare (resOut (blockRoot (weighted i X2 X3 X5) X6 X7 (carryIn i X4 X12)) X2 X3 X8 X9)
            ∗ owns (c : Thread nD τ) arg11 fullShare (smoothOut (blockRoot (weighted i X2 X3 X5) X6 X7 (carryIn i X4 X12)))
            ∗ owns (c : Thread nD τ) arg12 fullShare (carryOut (weighted i X2 X3 X5) X6 X7 (carryIn i X4 X12))) -∗ K ⟨⟩))
      ⊢ wp frame (wpE (defs₀ (F := F)) Variants.none c none) Set.univ
          (cc0_ema_norm i arg2 harg2 arg3 harg3 arg4 harg4 arg5 harg5 arg6 harg6 arg7 harg7 arg8 harg8 arg9 harg9 arg10 harg10 arg11 harg11 arg12 harg12) K := by
  simp only [cc0_ema_norm_eq_skeleton]; unfold cc0_ema_norm_skel
  simp only [k0_part1_eq_skeleton, k0_part2_eq_skeleton, k0_part3_eq_skeleton, k0_part4_eq_skeleton]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%x10, %f10, -, H10⟩, ⟨%x11, %f11, -, H11⟩, ⟨%f12, %h12, H12⟩, Hk⟩
  subst h2
  subst h3
  subst h4
  subst h5
  subst h6
  subst h7
  subst h8
  subst h9
  subst h12
  sl_exec
  sl_step
  sl_unfold_words
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro
    refine (View.read_writes_eq_canon _ _ _ ?_).trans ?_
    · exact fun y => View.cover_of_tiled (s := S2x1x2x257x1024) _ S1x1x1x257x1024.size (by rfl) y
    simp only [View.readAt_eq_ld, ld_plane, ld_pair, ld_row, carry_read i arg12.view f12]

    rfl
  isplitl [H11]
  · iexists _; isplitr; swap; · iexact H11
    ipureintro
    simp only [View.readAt_eq_ld, ld_plane, ld_pair, ld_row, carry_read i arg12.view f12, read_store_plane, read_store_lane]

    rfl
  · iexists _; isplitr; swap; · iexact H12
    ipureintro
    simp only [View.readAt_eq_ld, ld_plane, ld_pair, ld_row, carry_read i arg12.view f12, read_store_plane, read_store_lane]

    rfl

end Cert.KernelIdeal.Hand

end
-- ==== Proof.IdealPay.lean ====
/-
  What one run of the body computes, lane by lane: the weighted power (0 past the end of time), the initial carry, and
  the normalised block. Frequency `f` and lane `t` index a block; a normalised block is indexed by part (real,
  imaginary), channel, frequency and lane.
-/
module

public import proofs.«01_k».proof.Proof.IdealRun
public import Idealize.ShloMosaic.Lib.ValueIdxCore

@[expose] public section

set_option maxRecDepth 16384

noncomputable section

namespace Cert.KernelIdeal.Hand

open Cert.KernelIdeal Cert.KernelIdeal.Gen
open Idealize.ShloMosaic hiding ix1 ix2 ix3 ix4 ix5 eq_ix1 eq_ix2 eq_ix3 eq_ix4 eq_ix5
open Idealize.ShloMosaic.ValueIdx

variable {F : FTy → Type} [FloatOps F]

/-- The lane of a 128-lane table that lane `t` of a block reads. -/
abbrev lane128 (t : Fin 1024) : Fin 128 := ⟨t.val % 128, Nat.mod_lt _ (by decide)⟩

/-- A plane of an input block, its unit axes dropped. -/
theorem drop_plane (V : Vec F S1x1x1x257x1024 .f32) (h) (f : Fin 257) (t : Fin 1024) :
    shapeCast S257x1024 V h (ix2 f t) = V (ix5 0 0 0 f t) := by
  refine shapeCast_apply V h _ _ ?_
  rw [Shape.rowMajor_val_two, Shape.rowMajor_val_succ, Shape.rowMajor_val_succ, Shape.rowMajor_val_succ, Shape.rowMajor_val_two]
  simp
/-- … and given three unit axes again. -/
theorem add_plane (V : FVec F S257x1024 .f32) (h) (f : Fin 257) (t : Fin 1024) :
    shapeCast S1x1x1x257x1024 V h (ix5 0 0 0 f t) = V (ix2 f t) := by
  refine shapeCast_apply V h _ _ ?_
  rw [Shape.rowMajor_val_two, Shape.rowMajor_val_succ, Shape.rowMajor_val_succ, Shape.rowMajor_val_succ, Shape.rowMajor_val_two]
  simp
theorem plane0_apply (X : Vec F S1x1x2x257x1024 .f32) (f : Fin 257) (t : Fin 1024) :
    plane0 X (ix5 0 0 0 f t) = X (ix5 0 0 0 f t) := by
  unfold plane0
  rw [View.ld_unit]
  refine extractStridedSlice_apply _ X _ _ _ fun a => ?_
  fin_cases a <;> simp
theorem plane1_apply (X : Vec F S1x1x2x257x1024 .f32) (f : Fin 257) (t : Fin 1024) :
    plane1 X (ix5 0 0 0 f t) = X (ix5 0 0 1 f t) := by
  unfold plane1
  rw [View.ld_unit]
  refine extractStridedSlice_apply _ X _ _ _ fun a => ?_
  fin_cases a <;> simp
/-- A row of a table, its unit axis dropped. -/
theorem drop_row (V : Vec F S1x257x1024 .f32) (h) (f : Fin 257) (t : Fin 1024) :
    shapeCast S257x1024 V h (ix2 f t) = V (ix3 0 f t) := by
  refine shapeCast_apply V h _ _ ?_
  rw [Shape.rowMajor_val_two, Shape.rowMajor_val_succ, Shape.rowMajor_val_two]
  simp
theorem drop_row128 (V : Vec F S1x257x128 .f32) (h) (f : Fin 257) (t : Fin 128) :
    shapeCast S257x128 V h (ix2 f t) = V (ix3 0 f t) := by
  refine shapeCast_apply V h _ _ ?_
  rw [Shape.rowMajor_val_two, Shape.rowMajor_val_succ, Shape.rowMajor_val_two]
  simp
theorem add_row (V : FVec F S257x1024 .f32) (h) (f : Fin 257) (t : Fin 1024) :
    shapeCast S1x257x1024 V h (ix3 0 f t) = V (ix2 f t) := by
  refine shapeCast_apply V h _ _ ?_
  rw [Shape.rowMajor_val_two, Shape.rowMajor_val_succ, Shape.rowMajor_val_two]
  simp

/-- Eight copies of 128 lanes side by side: lane `t` is lane `t` modulo 128. -/
theorem eight_copies (x : FVec F S257x128 .f32) (h) (f : Fin 257) (t : Fin 1024) :
    concatenate S257x1024 1 [⟨S257x128, x⟩, ⟨S257x128, x⟩, ⟨S257x128, x⟩, ⟨S257x128, x⟩, ⟨S257x128, x⟩, ⟨S257x128, x⟩, ⟨S257x128, x⟩, ⟨S257x128, x⟩] h (ix2 f t)
      = x (ix2 f (lane128 t)) := by
  refine concatenate_ofFn_apply (t := S257x1024) (s₁ := S257x128) (1 : Fin 2) (N := 8) (fun _ => x) h rfl 128 rfl (ix2 f t)
    ⟨t.val / 128, by have := t.isLt; omega⟩ rfl (ix2 f (lane128 t)) rfl fun b hb => ?_
  fin_cases b
  · rfl
  · exact absurd rfl hb
theorem eight_copies3 (x : FVec F S2x257x128 .f32) (h) (ch : Fin 2) (f : Fin 257) (t : Fin 1024) :
    concatenate S2x257x1024 2 [⟨S2x257x128, x⟩, ⟨S2x257x128, x⟩, ⟨S2x257x128, x⟩, ⟨S2x257x128, x⟩, ⟨S2x257x128, x⟩, ⟨S2x257x128, x⟩, ⟨S2x257x128, x⟩, ⟨S2x257x128, x⟩] h (ix3 ch f t)
      = x (ix3 ch f (lane128 t)) := by
  refine concatenate_ofFn_apply (t := S2x257x1024) (s₁ := S2x257x128) (2 : Fin 3) (N := 8) (fun _ => x) h rfl 128 rfl (ix3 ch f t)
    ⟨t.val / 128, by have := t.isLt; omega⟩ rfl (ix3 ch f (lane128 t)) rfl fun b hb => ?_
  fin_cases b
  · rfl
  · rfl
  · exact absurd rfl hb

/-! ## The weighted power -/

/-- Lane `t` of time block `b` is inside the 2000 time steps. -/
theorem inside_iff (b : Fin 2) (t : Fin 1024) :
    Scalar.cmpi .slt (BitVec.ofNat 32 t.val) (Scalar.subi 2000#32 (Scalar.muli (BitVec.ofNat 32 b.val) 1024#32)) = 1#1
      ↔ b.val * 1024 + t.val < 2000 := by
  have ht := t.isLt
  have key : ∀ n : Nat, n ≤ 2000 → (Scalar.cmpi .slt (BitVec.ofNat 32 t.val) (BitVec.ofNat 32 n) = 1#1 ↔ t.val < n) := by
    intro n hn
    exact Idealize.ShloMosaic.WordCmp.cmpi_slt_ofNat_eq_one_iff (w := 32) (by omega) (by omega)
  fin_cases b
  · refine (key 2000 (by omega)).trans ?_
    show _ ↔ 0 * 1024 + t.val < 2000
    omega
  · refine (key 976 (by omega)).trans ?_
    show _ ↔ 1 * 1024 + t.val < 2000
    omega

/-- The weighted power of a lane: `(re² + im²) · a` of channel 0 inside the time axis, the zero word past it. -/
theorem weighted_apply (i : grid0.Coords) (X2 X3 : Vec F S1x1x2x257x1024 .f32) (X5 : Vec F S257x1024 .f32) (f : Fin 257) (t : Fin 1024) :
    weighted i X2 X3 X5 (ix2 f t) = if (i 1).val * 1024 + t.val < 2000 then
        FloatOps.mulf (FloatOps.addf (FloatOps.mulf (X2 (ix5 0 0 0 f t)) (X2 (ix5 0 0 0 f t))) (FloatOps.mulf (X3 (ix5 0 0 0 f t)) (X3 (ix5 0 0 0 f t))))
          (X5 (ix2 f t))
      else Scalar.ofBits .f32 0x00000000#32 := by
  have e2 : k0_pay4 (plane0 X2) (ix2 f t) = X2 (ix5 0 0 0 f t) := (drop_plane _ _ f t).trans (plane0_apply X2 f t)
  have e3 : k0_pay5 (plane0 X3) (ix2 f t) = X3 (ix5 0 0 0 f t) := (drop_plane _ _ f t).trans (plane0_apply X3 f t)
  have hc := inside_iff ⟨(i 1).val, (i 1).isLt⟩ t
  show Scalar.select (Scalar.cmpi .slt (iota .tc S257x1024 32 [1] iota_S257x1024_d1_w32 (ix2 f t)) _)
    (FloatOps.mulf (FloatOps.addf (FloatOps.mulf (k0_pay4 (plane0 X2) (ix2 f t)) (k0_pay4 (plane0 X2) (ix2 f t)))
        (FloatOps.mulf (k0_pay5 (plane0 X3) (ix2 f t)) (k0_pay5 (plane0 X3) (ix2 f t)))) (shapeCast S257x1024 X5 shapeCasts_S257x1024_S257x1024 (ix2 f t))) _ = _
  rw [e2, e3, shapeCast_self, iota_single_apply]
  unfold Scalar.select
  exact if_congr hc rfl rfl

/-- The weighted power reads the input blocks inside the time axis only. -/
theorem weighted_congr (i : grid0.Coords) (X2 X3 Y2 Y3 : Vec F S1x1x2x257x1024 .f32) (X5 : Vec F S257x1024 .f32)
    (h2 : ∀ (f : Fin 257) (t : Fin 1024), (i 1).val * 1024 + t.val < 2000 → X2 (ix5 0 0 0 f t) = Y2 (ix5 0 0 0 f t))
    (h3 : ∀ (f : Fin 257) (t : Fin 1024), (i 1).val * 1024 + t.val < 2000 → X3 (ix5 0 0 0 f t) = Y3 (ix5 0 0 0 f t)) :
    weighted i X2 X3 X5 = weighted i Y2 Y3 X5 := by
  funext j
  obtain ⟨f, t, rfl⟩ : ∃ (f : Fin 257) (t : Fin 1024), j = ix2 f t := ⟨j 0, j 1, eq_ix2 j⟩
  rw [weighted_apply, weighted_apply]
  split_ifs with h
  · rw [h2 f t h, h3 f t h]
  · rfl

/-! ## The initial carry and the smoothed block -/

theorem carryInit_apply (X4 : Vec F S1x257x128 .f32) (f : Fin 257) (t : Fin 1024) :
    k0_pay3 X4 (ix2 f t) = X4 (ix3 0 f (lane128 t)) := by
  show shapeCast S257x1024 (concatenate S257x1024 1 _ _) shapeCasts_S257x1024_S257x1024 (ix2 f t) = _
  rw [shapeCast_self]
  exact (eight_copies _ _ f t).trans (drop_row128 X4 _ f _)

theorem smoothOut_apply (root : FVec F S257x1024 .f32) (f : Fin 257) (t : Fin 1024) :
    smoothOut root (ix3 0 f t) = root (ix2 f t) := add_row root _ f t

/-! ## The normalised block -/

/-- The smoothing root of a lane and channel: channel 0 divides by the smoothed root, channel 1 by its own modulus. -/
def divisor (root : FVec F S257x1024 .f32) (X2 X3 : Vec F S1x1x2x257x1024 .f32) (ch : Fin 2) (f : Fin 257) (t : Fin 1024) : F .f32 :=
  if ch = 0 then root (ix2 f t)
  else FloatOps.sqrt (FloatOps.addf (FloatOps.mulf (X2 (ix5 0 0 1 f t)) (X2 (ix5 0 0 1 f t))) (FloatOps.mulf (X3 (ix5 0 0 1 f t)) (X3 (ix5 0 0 1 f t))))
/-- Element `(p, ch, f, t)` of the normalised block: `x · (1 / (divisor + ε) · w) + b`. -/
def normAt (root : FVec F S257x1024 .f32) (X2 X3 : Vec F S1x1x2x257x1024 .f32) (X8 X9 : Vec F S2x257x128 .f32)
    (p ch : Fin 2) (f : Fin 257) (t : Fin 1024) : F .f32 :=
  FloatOps.addf (FloatOps.mulf ((if p = 0 then X2 else X3) (ix5 0 0 ch f t))
      (FloatOps.mulf (FloatOps.divf (Scalar.ofBits .f32 0x3F800000#32) (FloatOps.addf (divisor root X2 X3 ch f t) (Scalar.ofBits .f32 0x322BCC77#32)))
        (X8 (ix3 ch f (lane128 t)))))
    (X9 (ix3 ch f (lane128 t)))

/-- Row `ch` of a stretched table. -/
theorem stretched0 (X : Vec F S2x257x128 .f32) (h h') (f : Fin 257) (t : Fin 1024) :
    shapeCast S257x1024 (extractStridedSlice S1x257x1024 ![0, 0, 0] (k0_pay16 X) h) h' (ix2 f t) = X (ix3 0 f (lane128 t)) := by
  rw [drop_row, extractStridedSlice_apply _ _ _ _ (ix3 (0 : Fin 2) f t) (fun a => by fin_cases a <;> simp)]
  exact (eight_copies3 (shapeCast S2x257x128 X shapeCasts_S2x257x128_S2x257x128) concatenates_S2x257x128_S2x257x128_S2x257x128_S2x257x128_S2x257x128_S2x257x128_S2x257x128_S2x257x128_S2x257x1024_d2 0 f t).trans (by rw [shapeCast_self])
theorem stretched1 (X : Vec F S2x257x128 .f32) (h h') (f : Fin 257) (t : Fin 1024) :
    shapeCast S257x1024 (extractStridedSlice S1x257x1024 ![1, 0, 0] (k0_pay16 X) h) h' (ix2 f t) = X (ix3 1 f (lane128 t)) := by
  rw [drop_row, extractStridedSlice_apply _ _ _ _ (ix3 (1 : Fin 2) f t) (fun a => by fin_cases a <;> simp)]
  exact (eight_copies3 (shapeCast S2x257x128 X shapeCasts_S2x257x128_S2x257x128) concatenates_S2x257x128_S2x257x128_S2x257x128_S2x257x128_S2x257x128_S2x257x128_S2x257x128_S2x257x128_S2x257x1024_d2 1 f t).trans (by rw [shapeCast_self])

/-- The four stored planes. -/
theorem piece_c0re (root : FVec F S257x1024 .f32) (X2 X3 : Vec F S1x1x2x257x1024 .f32) (X8 X9 : Vec F S2x257x128 .f32) (f : Fin 257) (t : Fin 1024) :
    k0_pay19 (k0_pay4 (plane0 X2)) root X8 X9 (ix5 0 0 0 f t) = normAt root X2 X3 X8 X9 0 0 f t := by
  unfold k0_pay19
  refine (add_plane (F := F) _ shapeCasts_S257x1024_S1x1x1x257x1024 f t).trans ?_
  have ex : k0_pay4 (plane0 X2) (ix2 f t) = X2 (ix5 0 0 0 f t) := (drop_plane _ _ f t).trans (plane0_apply X2 f t)
  have ew := stretched0 X8 slices_S2x257x1024_o0_0_0_S1x257x1024 shapeCasts_S1x257x1024_S257x1024 f t
  have eb := stretched0 X9 slices_S2x257x1024_o0_0_0_S1x257x1024 shapeCasts_S1x257x1024_S257x1024 f t
  unfold normAt divisor
  rw [← ew, ← eb, if_pos rfl, if_pos rfl, ← ex]
  rfl
theorem piece_c0im (root : FVec F S257x1024 .f32) (X2 X3 : Vec F S1x1x2x257x1024 .f32) (X8 X9 : Vec F S2x257x128 .f32) (f : Fin 257) (t : Fin 1024) :
    k0_pay20 (k0_pay5 (plane0 X3)) root X8 X9 (ix5 0 0 0 f t) = normAt root X2 X3 X8 X9 1 0 f t := by
  unfold k0_pay20
  refine (add_plane (F := F) _ shapeCasts_S257x1024_S1x1x1x257x1024 f t).trans ?_
  have ex : k0_pay5 (plane0 X3) (ix2 f t) = X3 (ix5 0 0 0 f t) := (drop_plane _ _ f t).trans (plane0_apply X3 f t)
  have ew := stretched0 X8 slices_S2x257x1024_o0_0_0_S1x257x1024 shapeCasts_S1x257x1024_S257x1024 f t
  have eb := stretched0 X9 slices_S2x257x1024_o0_0_0_S1x257x1024 shapeCasts_S1x257x1024_S257x1024 f t
  unfold normAt divisor
  rw [← ew, ← eb, if_neg (by decide), if_pos rfl, ← ex]
  rfl
theorem piece_c1re (root : FVec F S257x1024 .f32) (X2 X3 : Vec F S1x1x2x257x1024 .f32) (X8 X9 : Vec F S2x257x128 .f32) (f : Fin 257) (t : Fin 1024) :
    k0_pay1 (k0_pay6 (plane1 X2)) (k0_pay16 X9) (k0_pay18 (k0_pay8 (plane1 X2) (plane1 X3)) X8) (ix5 0 0 0 f t)
      = normAt root X2 X3 X8 X9 0 1 f t := by
  unfold k0_pay1
  refine (add_plane (F := F) _ shapeCasts_S257x1024_S1x1x1x257x1024 f t).trans ?_
  have e2 : k0_pay6 (plane1 X2) (ix2 f t) = X2 (ix5 0 0 1 f t) := (drop_plane _ _ f t).trans (plane1_apply X2 f t)
  have e3 : k0_pay7 (plane1 X3) (ix2 f t) = X3 (ix5 0 0 1 f t) := (drop_plane _ _ f t).trans (plane1_apply X3 f t)
  have ew := stretched1 X8 slices_S2x257x1024_o1_0_0_S1x257x1024 shapeCasts_S1x257x1024_S257x1024 f t
  have eb := stretched1 X9 slices_S2x257x1024_o1_0_0_S1x257x1024 shapeCasts_S1x257x1024_S257x1024 f t
  unfold normAt divisor
  rw [← ew, ← eb, if_pos rfl, if_neg (by decide), ← e2, ← e3]
  rfl
theorem piece_c1im (root : FVec F S257x1024 .f32) (X2 X3 : Vec F S1x1x2x257x1024 .f32) (X8 X9 : Vec F S2x257x128 .f32) (f : Fin 257) (t : Fin 1024) :
    k0_pay2 (k0_pay7 (plane1 X3)) (k0_pay16 X9) (k0_pay18 (k0_pay8 (plane1 X2) (plane1 X3)) X8) (ix5 0 0 0 f t)
      = normAt root X2 X3 X8 X9 1 1 f t := by
  unfold k0_pay2
  refine (add_plane (F := F) _ shapeCasts_S257x1024_S1x1x1x257x1024 f t).trans ?_
  have e2 : k0_pay6 (plane1 X2) (ix2 f t) = X2 (ix5 0 0 1 f t) := (drop_plane _ _ f t).trans (plane1_apply X2 f t)
  have e3 : k0_pay7 (plane1 X3) (ix2 f t) = X3 (ix5 0 0 1 f t) := (drop_plane _ _ f t).trans (plane1_apply X3 f t)
  have ew := stretched1 X8 slices_S2x257x1024_o1_0_0_S1x257x1024 shapeCasts_S1x257x1024_S257x1024 f t
  have eb := stretched1 X9 slices_S2x257x1024_o1_0_0_S1x257x1024 shapeCasts_S1x257x1024_S257x1024 f t
  unfold normAt divisor
  rw [← ew, ← eb, if_neg (by decide), if_neg (by decide), ← e2, ← e3]
  rfl

/-- The normalised block, element by element. -/
theorem resOut_apply (root : FVec F S257x1024 .f32) (X2 X3 : Vec F S1x1x2x257x1024 .f32) (X8 X9 : Vec F S2x257x128 .f32)
    (p ch : Fin 2) (f : Fin 257) (t : Fin 1024) :
    resOut root X2 X3 X8 X9 (ix5 p 0 ch f t) = normAt root X2 X3 X8 X9 p ch f t := by
  have key := View.canon_apply_of_pieces (Val := Elt F) (S := S2x1x2x257x1024) (e := .f32)
    (fun y => normAt root X2 X3 X8 X9 (y 0) (y 2) (y 3) (y 4)) (resPieces root X2 X3 X8 X9) ?_ (ix5 p 0 ch f t)
    (resPieces_cover root X2 X3 X8 X9 _)
  · exact key
  intro q hq x
  simp only [resPieces, List.mem_cons, List.mem_nil_iff, or_false] at hq
  rcases hq with rfl | rfl | rfl | rfl
  · obtain ⟨a, b, d, f', t', rfl⟩ : ∃ (a b d : Fin 1) (f : Fin 257) (t : Fin 1024), x = ix5 a b d f t := ⟨x 0, x 1, x 2, x 3, x 4, eq_ix5 x⟩
    obtain rfl := Subsingleton.elim a 0; obtain rfl := Subsingleton.elim b 0; obtain rfl := Subsingleton.elim d 0
    refine (piece_c1im root X2 X3 X8 X9 f' t').trans ?_
    congr 1 <;> (apply Fin.ext; simp [Rect.emb_apply])
  · obtain ⟨a, b, d, f', t', rfl⟩ : ∃ (a b d : Fin 1) (f : Fin 257) (t : Fin 1024), x = ix5 a b d f t := ⟨x 0, x 1, x 2, x 3, x 4, eq_ix5 x⟩
    obtain rfl := Subsingleton.elim a 0; obtain rfl := Subsingleton.elim b 0; obtain rfl := Subsingleton.elim d 0
    refine (piece_c1re root X2 X3 X8 X9 f' t').trans ?_
    congr 1 <;> (apply Fin.ext; simp [Rect.emb_apply])
  · obtain ⟨a, b, d, f', t', rfl⟩ : ∃ (a b d : Fin 1) (f : Fin 257) (t : Fin 1024), x = ix5 a b d f t := ⟨x 0, x 1, x 2, x 3, x 4, eq_ix5 x⟩
    obtain rfl := Subsingleton.elim a 0; obtain rfl := Subsingleton.elim b 0; obtain rfl := Subsingleton.elim d 0
    refine (piece_c0im root X2 X3 X8 X9 f' t').trans ?_
    congr 1 <;> (apply Fin.ext; simp [Rect.emb_apply])
  · obtain ⟨a, b, d, f', t', rfl⟩ : ∃ (a b d : Fin 1) (f : Fin 257) (t : Fin 1024), x = ix5 a b d f t := ⟨x 0, x 1, x 2, x 3, x 4, eq_ix5 x⟩
    obtain rfl := Subsingleton.elim a 0; obtain rfl := Subsingleton.elim b 0; obtain rfl := Subsingleton.elim d 0
    refine (piece_c0re root X2 X3 X8 X9 f' t').trans ?_
    congr 1 <;> (apply Fin.ext; simp [Rect.emb_apply])

end Cert.KernelIdeal.Hand

end
-- ==== Proof.IdealBody.lean ====
/-
  The launch: what every staging buffer and the carry hold at each grid point, the body's obligation there (by
  `kernel_run`), and the run of the whole program.

  The second time block overhangs the 2000 time steps, so the fetched input blocks hold unnamed words past the end.
  The weighted power is 0 there, so the smoothed block and the carry do not depend on them; the normalised block does,
  in lanes the write-back does not move.
-/
module

public import proofs.«01_k».proof.Proof.IdealPay
public import Idealize.ShloMosaic.Lib.Pipeline.FrameSuffix

@[expose] public section

set_option maxRecDepth 16384

noncomputable section

namespace Cert.KernelIdeal.Hand

open Cert.KernelIdeal Cert.KernelIdeal.Gen
open Idealize.ShloMosaic hiding ix1 ix2 ix3 ix4 ix5 eq_ix1 eq_ix2 eq_ix3 eq_ix4 eq_ix5
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which lanes the transfers move -/

theorem xsize_in0 : ∀ t : Fin cfg0.N, win0_0.xsize (grid0.coords t) 0 = 1 ∧ win0_0.xsize (grid0.coords t) 1 = 1
    ∧ win0_0.xsize (grid0.coords t) 2 = 2 ∧ win0_0.xsize (grid0.coords t) 3 = 257
    ∧ win0_0.xsize (grid0.coords t) 4 = min 1024 (2000 - (grid0.coords t 1).val * 1024) := by decide +kernel
theorem xsize_in1 : ∀ t : Fin cfg0.N, win0_1.xsize (grid0.coords t) 0 = 1 ∧ win0_1.xsize (grid0.coords t) 1 = 1
    ∧ win0_1.xsize (grid0.coords t) 2 = 2 ∧ win0_1.xsize (grid0.coords t) 3 = 257
    ∧ win0_1.xsize (grid0.coords t) 4 = min 1024 (2000 - (grid0.coords t 1).val * 1024) := by decide +kernel
theorem xsize_res : ∀ t : Fin cfg0.N, win0_8.xsize (grid0.coords t) 0 = 2 ∧ win0_8.xsize (grid0.coords t) 1 = 1
    ∧ win0_8.xsize (grid0.coords t) 2 = 2 ∧ win0_8.xsize (grid0.coords t) 3 = 257
    ∧ win0_8.xsize (grid0.coords t) 4 = min 1024 (2000 - (grid0.coords t 1).val * 1024) := by decide +kernel
theorem xsize_smooth : ∀ t : Fin cfg0.N, win0_9.xsize (grid0.coords t) 0 = 1 ∧ win0_9.xsize (grid0.coords t) 1 = 257
    ∧ win0_9.xsize (grid0.coords t) 2 = min 1024 (2000 - (grid0.coords t 1).val * 1024) := by decide +kernel

/-- The lanes inside the time axis are moved. -/
theorem moved_in0 (t : Fin cfg0.N) (ch : Fin 2) (f : Fin 257) (l : Fin 1024) (h : (grid0.coords t 1).val * 1024 + l.val < 2000) :
    win0_0.moved (grid0.coords t) (ix5 0 0 ch f l) = true := by
  obtain ⟨h0, h1, h2, h3, h4⟩ := xsize_in0 t
  refine (win0_0.moved_iff _ _).2 fun a => ?_
  match a with
  | ⟨0, _⟩ => exact lt_of_lt_of_eq Nat.zero_lt_one h0.symm
  | ⟨1, _⟩ => exact lt_of_lt_of_eq Nat.zero_lt_one h1.symm
  | ⟨2, _⟩ => exact lt_of_lt_of_eq ch.isLt h2.symm
  | ⟨3, _⟩ => exact lt_of_lt_of_eq f.isLt h3.symm
  | ⟨4, _⟩ => exact lt_of_lt_of_eq (lt_min l.isLt (show l.val < 2000 - (grid0.coords t 1).val * 1024 by omega)) h4.symm
theorem moved_in1 (t : Fin cfg0.N) (ch : Fin 2) (f : Fin 257) (l : Fin 1024) (h : (grid0.coords t 1).val * 1024 + l.val < 2000) :
    win0_1.moved (grid0.coords t) (ix5 0 0 ch f l) = true := by
  obtain ⟨h0, h1, h2, h3, h4⟩ := xsize_in1 t
  refine (win0_1.moved_iff _ _).2 fun a => ?_
  match a with
  | ⟨0, _⟩ => exact lt_of_lt_of_eq Nat.zero_lt_one h0.symm
  | ⟨1, _⟩ => exact lt_of_lt_of_eq Nat.zero_lt_one h1.symm
  | ⟨2, _⟩ => exact lt_of_lt_of_eq ch.isLt h2.symm
  | ⟨3, _⟩ => exact lt_of_lt_of_eq f.isLt h3.symm
  | ⟨4, _⟩ => exact lt_of_lt_of_eq (lt_min l.isLt (show l.val < 2000 - (grid0.coords t 1).val * 1024 by omega)) h4.symm

/-! ## What the buffers hold -/

/-- The input blocks, the lanes past the end of time at the zero word. -/
def reBlk (c : Dev nD) (t : Fin cfg0.N) : Vec F S1x1x2x257x1024 .f32 :=
  win0_0.fill (grid0.coords t) (fun _ => Scalar.ofBits .f32 0x00000000#32) (iblk m c 0 t)
def imBlk (c : Dev nD) (t : Fin cfg0.N) : Vec F S1x1x2x257x1024 .f32 :=
  win0_1.fill (grid0.coords t) (fun _ => Scalar.ofBits .f32 0x00000000#32) (iblk m c 1 t)

/-- Inside the time axis the fill does not matter. -/
theorem fill_in0 (c : Dev nD) (t : Fin cfg0.N) (d : Vec F S1x1x2x257x1024 .f32) (ch : Fin 2) (f : Fin 257) (l : Fin 1024)
    (h : (grid0.coords t 1).val * 1024 + l.val < 2000) :
    win0_0.fill (grid0.coords t) d (iblk m c 0 t) (ix5 0 0 ch f l) = reBlk m c t (ix5 0 0 ch f l) := by
  unfold reBlk Window.fill
  rw [dif_pos (moved_in0 t ch f l h), dif_pos (moved_in0 t ch f l h)]
theorem fill_in1 (c : Dev nD) (t : Fin cfg0.N) (d : Vec F S1x1x2x257x1024 .f32) (ch : Fin 2) (f : Fin 257) (l : Fin 1024)
    (h : (grid0.coords t 1).val * 1024 + l.val < 2000) :
    win0_1.fill (grid0.coords t) d (iblk m c 1 t) (ix5 0 0 ch f l) = imBlk m c t (ix5 0 0 ch f l) := by
  unfold imBlk Window.fill
  rw [dif_pos (moved_in1 t ch f l h), dif_pos (moved_in1 t ch f l h)]

/-- The weighted power of the block at point `t`. -/
def powerAt (c : Dev nD) (t : Fin cfg0.N) : FVec F S257x1024 .f32 :=
  weighted (grid0.coords t) (reBlk m c t) (imBlk m c t) (iblk m c 3 t)
/-- What the carry buffer holds before point `n`. -/
def carryAt (c : Dev nD) : ℕ → Vec F S257x1024 .f32
  | 0 => fun _ => Scalar.ofBits .f32 0x00000000#32
  | n + 1 => if h : n < cfg0.N then
      carryOut (powerAt m c ⟨n, h⟩) (iblk m c 4 ⟨n, h⟩) (iblk m c 5 ⟨n, h⟩) (carryIn (grid0.coords ⟨n, h⟩) (iblk m c 2 ⟨n, h⟩) (carryAt c n))
    else fun _ => Scalar.ofBits .f32 0x00000000#32
/-- The root of the smoothed block at point `t`. -/
def rootAt (c : Dev nD) (t : Fin cfg0.N) : FVec F S257x1024 .f32 :=
  blockRoot (powerAt m c t) (iblk m c 4 t) (iblk m c 5 t) (carryIn (grid0.coords t) (iblk m c 2 t) (carryAt m c t.val))

theorem carryAt_succ (c : Dev nD) (t : Fin cfg0.N) : carryAt m c (t.val + 1)
    = carryOut (powerAt m c t) (iblk m c 4 t) (iblk m c 5 t) (carryIn (grid0.coords t) (iblk m c 2 t) (carryAt m c t.val)) := by
  rw [carryAt, dif_pos t.isLt]

/-- The normalised block and the smoothed block at point `t`. -/
def resAt (c : Dev nD) (t : Fin cfg0.N) : Vec F S2x1x2x257x1024 .f32 :=
  resOut (rootAt m c t) (reBlk m c t) (imBlk m c t) (iblk m c 6 t) (iblk m c 7 t)
def smoothAt (c : Dev nD) (t : Fin cfg0.N) : Vec F S1x257x1024 .f32 := smoothOut (rootAt m c t)

/-- The proof data: the arrays as the region finds them; after the body the inputs' buffers at their blocks, the outputs'
    at the normalised block and the root; the carry buffer at `carryAt`, at the first point at anything. -/
def dats (_ : Fin 1) (c : Dev nD) : Dat τ (Elt F) Unit ℕ (UR sig nD τ) ℕ cfg0 c where
  A w := V m c (Pipeline.arrRef spec0 w)
  after w t := match w with
    | ⟨0, _⟩ => reBlk m c t
    | ⟨1, _⟩ => imBlk m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => resAt m c t
    | ⟨9, _⟩ => smoothAt m c t
  Φ t := iprop((∃ X, ⌜0 < t.val → X = carryAt m c t.val⌝ ∗ owns (c : Thread nD τ) (Memref.whole cc0_scratch0) fullShare X) ∗ ∃ r, prngReg (c : Dev nD) r)
  q w := Pipeline.shareOf spec0 w
  owed _ := 0

theorem A_eq (c : Dev nD) (w : Fin cfg0.W) : (dats m 0 c).A w = V m c (Pipeline.arrRef spec0 w) := by dsimp only [dats]

theorem phi_eq (c : Dev nD) (t : Fin (cfg0.N + 1)) : (dats m 0 c).Φ t
    = iprop((∃ X, ⌜0 < t.val → X = carryAt m c t.val⌝ ∗ owns (c : Thread nD τ) (Memref.whole cc0_scratch0) fullShare X) ∗ ∃ r, prngReg (c : Dev nD) r) := rfl

theorem before_0 (c : Dev nD) (t : Fin cfg0.N) (d) :
    (dats m 0 c).before (0 : Fin 10) t d = win0_0.fill (grid0.coords t) d (iblk m c 0 t) := by
  unfold Dat.before; rw [if_pos (fetch0_0 t)]; rfl
theorem before_1 (c : Dev nD) (t : Fin cfg0.N) (d) :
    (dats m 0 c).before (1 : Fin 10) t d = win0_1.fill (grid0.coords t) d (iblk m c 1 t) := by
  unfold Dat.before; rw [if_pos (fetch0_1 t)]; rfl
theorem before_2 (c : Dev nD) (t : Fin cfg0.N) (d) : (dats m 0 c).before (2 : Fin 10) t d = iblk m c 2 t :=
  before0_2_of m (dats m 0 c) rfl (fun _ => rfl) t d
theorem before_3 (c : Dev nD) (t : Fin cfg0.N) (d) : (dats m 0 c).before (3 : Fin 10) t d = iblk m c 3 t :=
  before0_3_of m (dats m 0 c) rfl (fun _ => rfl) t d
theorem before_4 (c : Dev nD) (t : Fin cfg0.N) (d) : (dats m 0 c).before (4 : Fin 10) t d = iblk m c 4 t :=
  before0_4_of m (dats m 0 c) rfl (fun _ => rfl) t d
theorem before_5 (c : Dev nD) (t : Fin cfg0.N) (d) : (dats m 0 c).before (5 : Fin 10) t d = iblk m c 5 t :=
  before0_5_of m (dats m 0 c) rfl (fun _ => rfl) t d
theorem before_6 (c : Dev nD) (t : Fin cfg0.N) (d) : (dats m 0 c).before (6 : Fin 10) t d = iblk m c 6 t :=
  before0_6_of m (dats m 0 c) rfl (fun _ => rfl) t d
theorem before_7 (c : Dev nD) (t : Fin cfg0.N) (d) : (dats m 0 c).before (7 : Fin 10) t d = iblk m c 7 t :=
  before0_7_of m (dats m 0 c) rfl (fun _ => rfl) t d

/-! ## The body's obligation -/

/-- The point of a later time block is not the first point. -/
theorem firstBlock_zero : ∀ t : Fin cfg0.N, t.val = 0 → firstBlock (grid0.coords t) := by decide +kernel

/-- The carry a block starts from, the buffer's unnamed contents before the first point unread. -/
theorem carryIn_eq (c : Dev nD) (t : Fin cfg0.N) (X : Vec F S257x1024 .f32) (h : 0 < t.val → X = carryAt m c t.val) :
    carryIn (grid0.coords t) (iblk m c 2 t) X = carryIn (grid0.coords t) (iblk m c 2 t) (carryAt m c t.val) := by
  rcases Nat.eq_zero_or_pos t.val with h0 | h0
  · unfold carryIn; rw [if_pos (firstBlock_zero t h0), if_pos (firstBlock_zero t h0)]
  · rw [h h0]

/-- The weighted power, the fetched blocks' unnamed lanes unread. -/
theorem power_eq (c : Dev nD) (t : Fin cfg0.N) (d0 d1 : Vec F S1x1x2x257x1024 .f32) :
    weighted (grid0.coords t) (win0_0.fill (grid0.coords t) d0 (iblk m c 0 t)) (win0_1.fill (grid0.coords t) d1 (iblk m c 1 t)) (iblk m c 3 t)
      = powerAt m c t :=
  weighted_congr _ _ _ _ _ _ (fun f l h => fill_in0 m c t d0 0 f l h) (fun f l h => fill_in1 m c t d1 0 f l h)

/-- The normalised block on the lanes the write-back moves, the fetched blocks' unnamed lanes unread. -/
theorem res_cut (c : Dev nD) (t : Fin cfg0.N) (root : FVec F S257x1024 .f32) (X8 X9 : Vec F S2x257x128 .f32) (d0 d1 : Vec F S1x1x2x257x1024 .f32) :
    win0_8.cut (grid0.coords t) (resOut root (win0_0.fill (grid0.coords t) d0 (iblk m c 0 t)) (win0_1.fill (grid0.coords t) d1 (iblk m c 1 t)) X8 X9)
      = win0_8.cut (grid0.coords t) (resOut root (reBlk m c t) (imBlk m c t) X8 X9) := by
  funext j
  obtain ⟨h0, h1, h2, h3, h4⟩ := xsize_res t
  have hj : (grid0.coords t 1).val * 1024 + (j 4).val < 2000 := by
    have := lt_of_lt_of_eq (j 4).isLt h4
    omega
  show resOut root _ _ X8 X9 (win0_8.xinj (grid0.coords t) j) = resOut root _ _ X8 X9 (win0_8.xinj (grid0.coords t) j)
  obtain ⟨p, z, ch, f, l, e⟩ : ∃ (p : Fin 2) (z : Fin 1) (ch : Fin 2) (f : Fin 257) (l : Fin 1024), win0_8.xinj (grid0.coords t) j = ix5 p z ch f l :=
    ⟨_, _, _, _, _, eq_ix5 _⟩
  have hl : l.val = (j 4).val := (congrArg (fun y : S2x1x2x257x1024.Idx => (y 4).val) e).symm
  obtain rfl := Subsingleton.elim z 0
  rw [← hl] at hj
  rw [e, resOut_apply, resOut_apply]
  have e2 : ∀ ch, win0_0.fill (grid0.coords t) d0 (iblk m c 0 t) (ix5 0 0 ch f l) = reBlk m c t (ix5 0 0 ch f l) := fun ch => fill_in0 m c t d0 ch f l hj
  have e3 : ∀ ch, win0_1.fill (grid0.coords t) d1 (iblk m c 1 t) (ix5 0 0 ch f l) = imBlk m c t (ix5 0 0 ch f l) := fun ch => fill_in1 m c t d1 ch f l hj
  unfold normAt divisor
  rw [e2 1, e3 1]
  split_ifs <;> simp only [e2, e3]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem root_eq (c : Dev nD) (t : Fin cfg0.N) :
    blockRoot (powerAt m c t) (iblk m c 4 t) (iblk m c 5 t) (carryIn (grid0.coords t) (iblk m c 2 t) (carryAt m c t.val)) = rootAt m c t := rfl
theorem smooth_eq (c : Dev nD) (t : Fin cfg0.N) : smoothOut (rootAt m c t) = smoothAt m c t := rfl
theorem res_eq (c : Dev nD) (t : Fin cfg0.N) :
    resOut (rootAt m c t) (reBlk m c t) (imBlk m c t) (iblk m c 6 t) (iblk m c 7 t) = resAt m c t := rfl

theorem cut_0 (c : Dev nD) (t : Fin cfg0.N) : win0_0.cut (grid0.coords t) (reBlk m c t) = iblk m c 0 t := win0_0.cut_fill _ _ _
theorem cut_1 (c : Dev nD) (t : Fin cfg0.N) : win0_1.cut (grid0.coords t) (imBlk m c t) = iblk m c 1 t := win0_1.cut_fill _ _ _

attribute [local irreducible] resAt smoothAt rootAt powerAt reBlk imBlk carryAt

set_option maxHeartbeats 3000000 in
theorem body_obligation (c : Dev nD) : BodyObligationLoose (dats m 0 c) (defs₀ (F := F)) Variants.none () Set.univ := fun t => by
  rw [bigSep_W0, bigSep_W0, defs₀_row]
  simp only
  rw [show (dats m 0 c).owesAt () t.succ = (dats m 0 c).owesAt () t.castSucc from rfl, phi_eq m c t.castSucc, phi_eq m c t.succ]
  iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0 m c t d0, before_1 m c t d1, before_2 m c t d2, before_3 m c t d3, before_4 m c t d4, before_5 m c t d5, before_6 m c t d6, before_7 m c t d7]
  iapply (kernel_run (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (Memref.whole cc0_scratch0) (Memref.isWhole_whole _)
    (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) X _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS]; · iexact HS
  rw [power_eq m c t d0 d1, carryIn_eq m c t X hX, root_eq m c t, smooth_eq m c t]
  have hcut := res_cut m c t (rootAt m c t) (iblk m c 6 t) (iblk m c 7 t) d0 d1
  rw [res_eq m c t] at hcut
  generalize resOut (rootAt m c t) (win0_0.fill (grid0.coords t) d0 (iblk m c 0 t)) (win0_1.fill (grid0.coords t) d1 (iblk m c 1 t))
    (iblk m c 6 t) (iblk m c 7 t) = R at hcut ⊢
  iintro ⟨H0, H1, H2, H3, H4, H5, H6, H7, H8, H9, HS⟩
  isplitl [HS Hg]
  · isplitl [HS]
    · iexists _; isplitr; swap; · iexact HS
      ipureintro; exact fun _ => (carryAt_succ m c t).symm
    iexact Hg
  isplitl [Ho]; · iexact Ho
  isplitl [H0]
  · iexists d0
    change _ ⊢ owns (c : Thread nD τ) (win0_0.stage (cfg0.slots t 0)) fullShare (win0_0.fill (grid0.coords t) d0 (win0_0.cut (grid0.coords t) (reBlk m c t)))
    rw [cut_0]
    try iexact H0
  isplitl [H1]
  · iexists d1
    change _ ⊢ owns (c : Thread nD τ) (win0_1.stage (cfg0.slots t 1)) fullShare (win0_1.fill (grid0.coords t) d1 (win0_1.cut (grid0.coords t) (imBlk m c t)))
    rw [cut_1]
    try iexact H1
  isplitl [H2]; · iexact H2
  isplitl [H3]; · iexact H3
  isplitl [H4]; · iexact H4
  isplitl [H5]; · iexact H5
  isplitl [H6]; · iexact H6
  isplitl [H7]; · iexact H7
  isplitl [H8]
  · iexists R
    change _ ⊢ owns (c : Thread nD τ) (win0_8.stage (cfg0.slots t 8)) fullShare (win0_8.fill (grid0.coords t) R (win0_8.cut (grid0.coords t) (resAt m c t)))
    rw [← hcut, win0_8.fill_cut]
    try iexact H8
  · iexists (smoothAt m c t)
    change _ ⊢ owns (c : Thread nD τ) (win0_9.stage (cfg0.slots t 9)) fullShare (win0_9.fill (grid0.coords t) (smoothAt m c t) (win0_9.cut (grid0.coords t) (smoothAt m c t)))
    rw [win0_9.fill_cut]
    try iexact H9

/-! ## The launch -/

theorem phi_in (c : Dev nD) : Pipeline.ΦA spec0 c ⊢ (dats (F := F) m 0 c).Φ 0 := by
  unfold Pipeline.ΦA
  rw [scopedRest0_eq, phi_eq]
  iintro ⟨⟨%f, H⟩, Hg⟩
  isplitl [H]
  · iexists f
    isplitr; · ipureintro; exact fun h => absurd h (Nat.lt_irrefl 0)
    rw [owns_whole]; iexact H
  iexact Hg
theorem phi_out (c : Dev nD) : (dats (F := F) m 0 c).Φ (Fin.last cfg0.N) ⊢ Pipeline.ΦA spec0 c := by
  unfold Pipeline.ΦA
  rw [scopedRest0_eq, phi_eq]
  iintro ⟨⟨%X, %hX, H⟩, Hg⟩
  isplitl [H]
  · iexists X
    rw [← owns_whole (c : Thread nD τ) cc0_scratch0 fullShare X]; iexact H
  iexact Hg

-- the launch theorem's implicit arguments are found by unifying its conclusion with this statement, which unifies only
-- when unification may unfold plain definitions in a metavariable's type
set_option backward.isDefEq.respectTransparency.types false in
/-- At any value instance, from any memory with zero counters: every weakly fair execution of @main terminates with the
    region's arrays written as `dats` says, the host operations after it applied, and every semaphore counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => body_obligation m c) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := phi_in m) (hout := phi_out m)

/-- The frame with the counters: the argument arrays end as they were, and every semaphore counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c),
        ((h.1 c).2 main_arg2 (Pipeline.mem_restRefs_of main_arg2 (by decide) (by decide))).trans (W_main_arg2 m (dats m) c),
        ((h.1 c).2 main_arg3 (Pipeline.mem_restRefs_of main_arg3 (by decide) (by decide))).trans (W_main_arg3 m (dats m) c),
        ((h.1 c).2 main_arg4 (Pipeline.mem_restRefs_of main_arg4 (by decide) (by decide))).trans (W_main_arg4 m (dats m) c)⟩, h.2⟩)
    (run_main m ρ)

end Cert.KernelIdeal.Hand

end
-- ==== Proof.IdealBlocks.lean ====
/-
  The blocks the windows move, index by index: a window over a whole array reads the array, the state's window reads the
  batch entry's row, the input's windows read the block of 1024 times, cut at the end of time.
-/
module

public import proofs.«01_k».proof.Proof.IdealBody

@[expose] public section

set_option maxRecDepth 16384

noncomputable section

namespace Cert.KernelIdeal.Hand

open Cert.KernelIdeal Cert.KernelIdeal.Gen
open Idealize.ShloMosaic hiding ix1 ix2 ix3 ix4 ix5 eq_ix1 eq_ix2 eq_ix3 eq_ix4 eq_ix5
open Idealize.ShloMosaic.TcCoe Idealize.ShloMosaic.ValueIdx

variable {F : FTy → Type} [FloatOps F]
variable (m : (ℓ : Loc nD τ sig) → Buf (Elt F) ℓ) (c : Dev nD)

theorem index_0 : ∀ t : Fin cfg0.N, win0_0.index t 0 = 0 ∧ win0_0.index t 1 = (grid0.coords t 0).val ∧ win0_0.index t 2 = 0
    ∧ win0_0.index t 3 = 0 ∧ win0_0.index t 4 = (grid0.coords t 1).val := by decide +kernel
theorem index_1 : ∀ t : Fin cfg0.N, win0_1.index t 0 = 1 ∧ win0_1.index t 1 = (grid0.coords t 0).val ∧ win0_1.index t 2 = 0
    ∧ win0_1.index t 3 = 0 ∧ win0_1.index t 4 = (grid0.coords t 1).val := by decide +kernel
theorem index_2 : ∀ t : Fin cfg0.N, win0_2.index t 0 = (grid0.coords t 0).val ∧ win0_2.index t 1 = 0 ∧ win0_2.index t 2 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 ∧ win0_5.index t 2 = 0 := by decide +kernel
theorem index_6 : ∀ t : Fin cfg0.N, win0_6.index t 0 = 0 ∧ win0_6.index t 1 = 0 ∧ win0_6.index t 2 = 0 := by decide +kernel
theorem index_7 : ∀ t : Fin cfg0.N, win0_7.index t 0 = 0 ∧ win0_7.index t 1 = 0 ∧ win0_7.index t 2 = 0 := by decide +kernel

/-- The weights' window. -/
theorem iblk_3 (t : Fin cfg0.N) (f : Fin 257) (l : Fin 1024) : (iblk m c 3 t : Vec F S257x1024 .f32) (ix2 f l) = V m c main_v111 (ix2 f l) := by
  obtain ⟨h0, h1⟩ := index_3 t
  unfold iblk
  rw [View.read_apply]
  show V m c main_v111 _ = V m c main_v111 _
  congr 1
  funext a
  apply Fin.ext
  match a with
  | ⟨0, _⟩ => show win0_3.index t 0 * 257 + 1 * f.val = f.val; omega
  | ⟨1, _⟩ => show win0_3.index t 1 * 1024 + 1 * l.val = l.val; omega
/-- The powers' window. -/
theorem iblk_4 (t : Fin cfg0.N) (f : Fin 257) (l : Fin 1024) : (iblk m c 4 t : Vec F S257x1024 .f32) (ix2 f l) = V m c main_v18 (ix2 f l) := by
  obtain ⟨h0, h1⟩ := index_4 t
  unfold iblk
  rw [View.read_apply]
  show V m c main_v18 _ = V m c main_v18 _
  congr 1
  funext a
  apply Fin.ext
  match a with
  | ⟨0, _⟩ => show win0_4.index t 0 * 257 + 1 * f.val = f.val; omega
  | ⟨1, _⟩ => show win0_4.index t 1 * 1024 + 1 * l.val = l.val; omega
/-- The decay tables' window. -/
theorem iblk_5 (t : Fin cfg0.N) (k : Fin 10) (f : Fin 257) (l : Fin 1024) :
    (iblk m c 5 t : Vec F S10x257x1024 .f32) (ix3 k f l) = V m c main_v109 (ix3 k f l) := by
  obtain ⟨h0, h1, h2⟩ := index_5 t
  unfold iblk
  rw [View.read_apply]
  show V m c main_v109 _ = V m c main_v109 _
  congr 1
  funext a
  apply Fin.ext
  match a with
  | ⟨0, _⟩ => show win0_5.index t 0 * 10 + 1 * k.val = k.val; omega
  | ⟨1, _⟩ => show win0_5.index t 1 * 257 + 1 * f.val = f.val; omega
  | ⟨2, _⟩ => show win0_5.index t 2 * 1024 + 1 * l.val = l.val; omega
/-- The scale's window. -/
theorem iblk_6 (t : Fin cfg0.N) (k : Fin 2) (f : Fin 257) (l : Fin 128) :
    (iblk m c 6 t : Vec F S2x257x128 .f32) (ix3 k f l) = V m c main_v115 (ix3 k f l) := by
  obtain ⟨h0, h1, h2⟩ := index_6 t
  unfold iblk
  rw [View.read_apply]
  show V m c main_v115 _ = V m c main_v115 _
  congr 1
  funext a
  apply Fin.ext
  match a with
  | ⟨0, _⟩ => show win0_6.index t 0 * 2 + 1 * k.val = k.val; omega
  | ⟨1, _⟩ => show win0_6.index t 1 * 257 + 1 * f.val = f.val; omega
  | ⟨2, _⟩ => show win0_6.index t 2 * 128 + 1 * l.val = l.val; omega
/-- The offset's window. -/
theorem iblk_7 (t : Fin cfg0.N) (k : Fin 2) (f : Fin 257) (l : Fin 128) :
    (iblk m c 7 t : Vec F S2x257x128 .f32) (ix3 k f l) = V m c main_v117 (ix3 k f l) := by
  obtain ⟨h0, h1, h2⟩ := index_7 t
  unfold iblk
  rw [View.read_apply]
  show V m c main_v117 _ = V m c main_v117 _
  congr 1
  funext a
  apply Fin.ext
  match a with
  | ⟨0, _⟩ => show win0_7.index t 0 * 2 + 1 * k.val = k.val; omega
  | ⟨1, _⟩ => show win0_7.index t 1 * 257 + 1 * f.val = f.val; omega
  | ⟨2, _⟩ => show win0_7.index t 2 * 128 + 1 * l.val = l.val; omega
/-- The state's window. -/
theorem iblk_2 (t : Fin cfg0.N) (f : Fin 257) (l : Fin 128) :
    (iblk m c 2 t : Vec F S1x257x128 .f32) (ix3 0 f l) = V m c main_v113 (ix3 (grid0.coords t 0) f l) := by
  obtain ⟨h0, h1, h2⟩ := index_2 t
  unfold iblk
  rw [View.read_apply]
  show V m c main_v113 _ = V m c main_v113 _
  congr 1
  funext a
  apply Fin.ext
  match a with
  | ⟨0, _⟩ => show win0_2.index t 0 * 1 + 1 * 0 = (grid0.coords t 0).val; omega
  | ⟨1, _⟩ => show win0_2.index t 1 * 257 + 1 * f.val = f.val; omega
  | ⟨2, _⟩ => show win0_2.index t 2 * 128 + 1 * l.val = l.val; omega

/-- The real parts, inside the time axis. -/
theorem reBlk_apply (t : Fin cfg0.N) (ch : Fin 2) (f : Fin 257) (l : Fin 1024) (h : (grid0.coords t 1).val * 1024 + l.val < 2000) :
    reBlk m c t (ix5 0 0 ch f l) = V m c main_v0 (ix5 0 (grid0.coords t 0) ch f ⟨(grid0.coords t 1).val * 1024 + l.val, h⟩) := by
  obtain ⟨h0, h1, h2, h3, h4⟩ := index_0 t
  unfold reBlk Pipeline.Window.fill
  rw [dif_pos (moved_in0 t ch f l h)]
  unfold iblk
  rw [View.read_apply]
  show V m c main_v0 _ = V m c main_v0 _
  congr 1
  funext a
  apply Fin.ext
  match a with
  | ⟨0, _⟩ => show win0_0.index t 0 * 1 + 1 * 0 = 0; omega
  | ⟨1, _⟩ => show win0_0.index t 1 * 1 + 1 * 0 = (grid0.coords t 0).val; omega
  | ⟨2, _⟩ => show win0_0.index t 2 * 2 + 1 * ch.val = ch.val; omega
  | ⟨3, _⟩ => show win0_0.index t 3 * 257 + 1 * f.val = f.val; omega
  | ⟨4, _⟩ => show win0_0.index t 4 * 1024 + 1 * l.val = (grid0.coords t 1).val * 1024 + l.val; omega
/-- The imaginary parts, inside the time axis. -/
theorem imBlk_apply (t : Fin cfg0.N) (ch : Fin 2) (f : Fin 257) (l : Fin 1024) (h : (grid0.coords t 1).val * 1024 + l.val < 2000) :
    imBlk m c t (ix5 0 0 ch f l) = V m c main_v0 (ix5 1 (grid0.coords t 0) ch f ⟨(grid0.coords t 1).val * 1024 + l.val, h⟩) := by
  obtain ⟨h0, h1, h2, h3, h4⟩ := index_1 t
  unfold imBlk Pipeline.Window.fill
  rw [dif_pos (moved_in1 t ch f l h)]
  unfold iblk
  rw [View.read_apply]
  show V m c main_v0 _ = V m c main_v0 _
  congr 1
  funext a
  apply Fin.ext
  match a with
  | ⟨0, _⟩ => show win0_1.index t 0 * 1 + 1 * 0 = 1; omega
  | ⟨1, _⟩ => show win0_1.index t 1 * 1 + 1 * 0 = (grid0.coords t 0).val; omega
  | ⟨2, _⟩ => show win0_1.index t 2 * 2 + 1 * ch.val = ch.val; omega
  | ⟨3, _⟩ => show win0_1.index t 3 * 257 + 1 * f.val = f.val; omega
  | ⟨4, _⟩ => show win0_1.index t 4 * 1024 + 1 * l.val = (grid0.coords t 1).val * 1024 + l.val; omega

end Cert.KernelIdeal.Hand

end
-- ==== Proof.IdealPrefix.lean ====
/-
  The arrays the region reads, as the operations before it compute them: the parts of the input, the row of smoothing
  weights, the decay tables, the state, scale and offset copied along the lanes.
-/
module

public import proofs.«01_k».proof.Proof.Gen.KernelIdeal.Frame
public import Idealize.ShloMosaic.Lib.StableHlo.RunRead

@[expose] public section

set_option maxRecDepth 100000

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-- The smoothing weight of each frequency, the logistic of the parameter. -/
def weightRow (A : FVec F S1x1x257x1 .f32) : FVec F S257 .f32 :=
  Host.divf (broadcastInDim S257 ![] bcast_S_S257 (constant S_ .f32 0x3F800000#32))
    (addf (broadcastInDim S257 ![] bcast_S_S257 (constant S_ .f32 0x3F800000#32)) (Host.exp (Host.negf (shapeCast S257 A shapeCasts_S1x1x257x1_S257))))
/-- The logarithm of the decay. -/
def logDecay (A : FVec F S1x1x257x1 .f32) : FVec F S257 .f32 := Host.log1p (Host.negf (weightRow A))
/-- The lane numbers. -/
def laneRow : FVec F S1x1024 .f32 := broadcastInDim S1x1024 ![1] bcast_S1024_S1x1024_1 (sitofp .f32 (iotaInDim S1024 32 0))
/-- The decay after lane `t` of a block, `t + 1` steps in. -/
def powerTable (A : FVec F S1x1x257x1 .f32) : FVec F S257x1024 .f32 :=
  Host.exp (mulf (broadcastInDim S257x1024 ![0, 1] bcast_S257x1_S257x1024_0_1 (broadcastInDim S257x1 ![0] bcast_S257_S257x1_0 (logDecay A)))
    (broadcastInDim S257x1024 ![0, 1] bcast_S1x1024_S257x1024_0_1
      (addf laneRow (broadcastInDim S1x1024 ![] bcast_S_S1x1024 (constant S_ .f32 0x3F800000#32)))))
/-- The decay over `b` steps (a float's word), 0 in the first `b` lanes. -/
def decayTable (A : FVec F S1x1x257x1 .f32) (b : BitVec 32) : FVec F S257x1024 .f32 :=
  select (broadcastInDim S257x1024 ![0, 1] bcast_S1x1024_S257x1024_0_1
      (cmpf .oge (laneRow (F := F)) (broadcastInDim S1x1024 ![] bcast_S_S1x1024 (constant S_ .f32 b))))
    (broadcastInDim S257x1024 ![0, 1] bcast_S257x1_S257x1024_0_1 (broadcastInDim S257x1 ![0] bcast_S257_S257x1_0
      (Host.exp (mulf (logDecay A) (broadcastInDim S257 ![] bcast_S_S257 (constant S_ .f32 b))))))
    (broadcastInDim S257x1024 ![] bcast_S_S257x1024 (constant S_ .f32 0x00000000#32))
/-- A decay table with a leading unit axis. -/
def decaySlab (A : FVec F S1x1x257x1 .f32) (b : BitVec 32) : FVec F S1x257x1024 .f32 :=
  broadcastInDim S1x257x1024 ![1, 2] bcast_S257x1024_S1x257x1024_1_2 (decayTable A b)
/-- The ten decay tables. -/
def decayTables (A : FVec F S1x1x257x1 .f32) : FVec F S10x257x1024 .f32 :=
  concatenate S10x257x1024 0 [⟨S1x257x1024, decaySlab A 0x3F800000#32⟩, ⟨S1x257x1024, decaySlab A 0x40000000#32⟩, ⟨S1x257x1024, decaySlab A 0x40800000#32⟩, ⟨S1x257x1024, decaySlab A 0x41000000#32⟩, ⟨S1x257x1024, decaySlab A 0x41800000#32⟩, ⟨S1x257x1024, decaySlab A 0x42000000#32⟩, ⟨S1x257x1024, decaySlab A 0x42800000#32⟩, ⟨S1x257x1024, decaySlab A 0x43000000#32⟩, ⟨S1x257x1024, decaySlab A 0x43800000#32⟩, ⟨S1x257x1024, decaySlab A 0x44000000#32⟩] concatenates_S1x257x1024_S1x257x1024_S1x257x1024_S1x257x1024_S1x257x1024_S1x257x1024_S1x257x1024_S1x257x1024_S1x257x1024_S1x257x1024_S10x257x1024_d0

/-- Ten slabs laid together, slab by slab. -/
theorem slabs_congr {x0 x1 x2 x3 x4 x5 x6 x7 x8 x9 y0 y1 y2 y3 y4 y5 y6 y7 y8 y9 : FVec F S1x257x1024 .f32} (h0 : x0 = y0) (h1 : x1 = y1) (h2 : x2 = y2) (h3 : x3 = y3) (h4 : x4 = y4) (h5 : x5 = y5) (h6 : x6 = y6) (h7 : x7 = y7) (h8 : x8 = y8) (h9 : x9 = y9) :
    concatenate S10x257x1024 0 [⟨S1x257x1024, x0⟩, ⟨S1x257x1024, x1⟩, ⟨S1x257x1024, x2⟩, ⟨S1x257x1024, x3⟩, ⟨S1x257x1024, x4⟩, ⟨S1x257x1024, x5⟩, ⟨S1x257x1024, x6⟩, ⟨S1x257x1024, x7⟩, ⟨S1x257x1024, x8⟩, ⟨S1x257x1024, x9⟩] concatenates_S1x257x1024_S1x257x1024_S1x257x1024_S1x257x1024_S1x257x1024_S1x257x1024_S1x257x1024_S1x257x1024_S1x257x1024_S1x257x1024_S10x257x1024_d0
      = concatenate S10x257x1024 0 [⟨S1x257x1024, y0⟩, ⟨S1x257x1024, y1⟩, ⟨S1x257x1024, y2⟩, ⟨S1x257x1024, y3⟩, ⟨S1x257x1024, y4⟩, ⟨S1x257x1024, y5⟩, ⟨S1x257x1024, y6⟩, ⟨S1x257x1024, y7⟩, ⟨S1x257x1024, y8⟩, ⟨S1x257x1024, y9⟩] concatenates_S1x257x1024_S1x257x1024_S1x257x1024_S1x257x1024_S1x257x1024_S1x257x1024_S1x257x1024_S1x257x1024_S1x257x1024_S1x257x1024_S10x257x1024_d0 := by
  subst h0 h1 h2 h3 h4 h5 h6 h7 h8 h9
  rfl

variable (m : (ℓ : Loc nD τ sig) → Buf (Elt F) ℓ) (c : Dev nD)

/-- The input's parts, channels and frequencies ahead of time. -/
theorem V_main_v0 : V m c main_v0 = transpose S2x16x2x257x2000 [4, 0, 1, 3, 2] (m ((c : Thread nD τ).loc main_arg0)) transposes_S16x2x2000x257x2_S2x16x2x257x2000_4_0_1_3_2 := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc main_v0) = _
  simp only [List.flatten_cons, List.flatten_nil, List.append_nil]
  after_reads_simp

/-- The decay powers. -/
theorem V_main_v18 : V m c main_v18 = powerTable (m ((c : Thread nD τ).loc main_arg4)) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc main_v18) = _
  simp only [List.flatten_cons, List.flatten_nil, List.append_nil]
  after_reads_simp
  rfl

/-- The weights along the lanes. -/
theorem V_main_v111 : V m c main_v111 = broadcastInDim S257x1024 ![0, 1] bcast_S257x1_S257x1024_0_1 (broadcastInDim S257x1 ![0] bcast_S257_S257x1_0 (weightRow (m ((c : Thread nD τ).loc main_arg4)))) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc main_v111) = _
  simp only [List.flatten_cons, List.flatten_nil, List.append_nil]
  after_reads_simp
  rfl

/-- The initial state along the lanes. -/
theorem V_main_v113 : V m c main_v113 = broadcastInDim S16x257x128 ![0, 1, 2] bcast_S16x257x1_S16x257x128_0_1_2 (shapeCast S16x257x1 (m ((c : Thread nD τ).loc main_arg1)) shapeCasts_S16x1x257x1_S16x257x1) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc main_v113) = _
  simp only [List.flatten_cons, List.flatten_nil, List.append_nil]
  after_reads_simp
  rfl

/-- The scale along the lanes. -/
theorem V_main_v115 : V m c main_v115 = broadcastInDim S2x257x128 ![0, 1, 2] bcast_S2x257x1_S2x257x128_0_1_2 (shapeCast S2x257x1 (m ((c : Thread nD τ).loc main_arg2)) shapeCasts_S1x2x1x257x1_S2x257x1) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc main_v115) = _
  simp only [List.flatten_cons, List.flatten_nil, List.append_nil]
  after_reads_simp
  rfl

/-- The offset along the lanes. -/
theorem V_main_v117 : V m c main_v117 = broadcastInDim S2x257x128 ![0, 1, 2] bcast_S2x257x1_S2x257x128_0_1_2 (shapeCast S2x257x1 (m ((c : Thread nD τ).loc main_arg3)) shapeCasts_S1x2x1x257x1_S2x257x1) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc main_v117) = _
  simp only [List.flatten_cons, List.flatten_nil, List.append_nil]
  after_reads_simp
  rfl

/-- The decay tables. -/
theorem V_main_v109 : V m c main_v109 = decayTables (m ((c : Thread nD τ).loc main_arg4)) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b)) (Proc.devRef .tc main_v109) = _
  simp only [List.flatten_cons, List.flatten_nil, List.append_nil]
  after_reads_simp
  dsimp only [Matrix.cons_val]
  unfold decayTables
  refine slabs_congr ?_ ?_ ?_ ?_ ?_ ?_ ?_ ?_ ?_ ?_ <;> after_reads_simp <;> rfl

end Cert.KernelIdeal.Hand

end
-- ==== Proof.Smooth.lean ====
/-
  Exponential smoothing on the extended reals: the recursion, its doubling form, and the logistic weight.

  `ema q y s n` is the state after `n` samples `y 0 … y (n - 1)` from the state `s`, with decay `q`.
  `stretch q y n t` is the sum of the last `n` samples up to sample `t`, each with its decay: one doubling step takes
  it from `n` to `n + n`.
-/
module

public import Mathlib.Data.EReal.Operations
public import Mathlib.Algebra.BigOperators.Intervals
public import Mathlib.Analysis.SpecialFunctions.Log.Basic
public import Mathlib.Analysis.SpecialFunctions.Exp

@[expose] public section

noncomputable section

namespace Cert.Smooth

/-- The state after `n` samples. -/
def ema (q : ℝ) (y : ℕ → EReal) (s : EReal) : ℕ → EReal
  | 0 => s
  | n + 1 => ema q y s n * (q : EReal) + y n

/-- The last `n` samples up to sample `t`, each with its decay. -/
def stretch (q : ℝ) (y : ℕ → EReal) (n t : ℕ) : EReal :=
  ∑ j ∈ Finset.range (min n (t + 1)), ((q ^ j : ℝ) : EReal) * y (t - j)

/-- A nonnegative real distributes over a sum of two. -/
theorem real_mul_add (c : ℝ) (hc : 0 ≤ c) (a b : EReal) : (c : EReal) * (a + b) = c * a + c * b :=
  EReal.left_distrib_of_nonneg_of_ne_top (EReal.coe_nonneg.2 hc) (EReal.coe_ne_top c) a b

/-- A nonnegative real distributes over a sum. -/
theorem real_mul_sum (c : ℝ) (hc : 0 ≤ c) (f : ℕ → EReal) (n : ℕ) :
    (c : EReal) * ∑ j ∈ Finset.range n, f j = ∑ j ∈ Finset.range n, (c : EReal) * f j := by
  induction n with
  | zero => simp
  | succ n ih => rw [Finset.sum_range_succ, Finset.sum_range_succ, real_mul_add c hc, ih]

theorem stretch_one (q : ℝ) (y : ℕ → EReal) (t : ℕ) : stretch q y 1 t = y t := by
  unfold stretch
  rw [show min 1 (t + 1) = 1 by omega, Finset.sum_range_one]
  simp

/-- One doubling step. -/
theorem stretch_double (q : ℝ) (hq : 0 ≤ q) (y : ℕ → EReal) (n t : ℕ) :
    stretch q y (n + n) t = stretch q y n t + if n ≤ t then ((q ^ n : ℝ) : EReal) * stretch q y n (t - n) else 0 := by
  unfold stretch
  by_cases h : n ≤ t
  · rw [if_pos h, real_mul_sum _ (pow_nonneg hq n), show min (n + n) (t + 1) = n + min n (t - n + 1) by omega,
      show min n (t + 1) = n by omega, Finset.sum_range_add]
    congr 1
    refine Finset.sum_congr rfl fun j _ => ?_
    rw [← mul_assoc, ← EReal.coe_mul, ← pow_add, Nat.sub_sub]
  · rw [if_neg h, add_zero, show min (n + n) (t + 1) = min n (t + 1) by omega]

/-- The doubling form with the decayed initial state is the recursion. -/
theorem stretch_add_state (q : ℝ) (hq : 0 ≤ q) (y : ℕ → EReal) (s : EReal) (n : ℕ) : ∀ t, t < n →
    stretch q y n t + ((q ^ (t + 1) : ℝ) : EReal) * s = ema q y s (t + 1)
  | 0, h => by
    unfold stretch
    rw [show min n (0 + 1) = 1 by omega, Finset.sum_range_one]
    simp only [ema, pow_zero, EReal.coe_one, one_mul, Nat.sub_zero, zero_add, pow_one]
    rw [mul_comm s, add_comm]
  | t + 1, h => by
    rw [ema, ← stretch_add_state q hq y s n t (by omega), mul_comm (_ + _) (q : EReal), real_mul_add q hq]
    unfold stretch
    rw [show min n (t + 1 + 1) = t + 1 + 1 by omega, show min n (t + 1) = t + 1 by omega, Finset.sum_range_succ' _ (t + 1),
      real_mul_sum q hq]
    simp only [pow_zero, EReal.coe_one, one_mul, Nat.sub_zero]
    rw [← mul_assoc, ← EReal.coe_mul, ← pow_succ', add_right_comm]
    congr 2
    refine Finset.sum_congr rfl fun j _ => ?_
    rw [← mul_assoc, ← EReal.coe_mul, ← pow_succ', show t + 1 - (j + 1) = t - j by omega]

/-- Smoothing a later stretch from the state before it. -/
theorem ema_shift (q : ℝ) (y : ℕ → EReal) (s : EReal) (d : ℕ) : ∀ n,
    ema q (fun k => y (d + k)) (ema q y s d) n = ema q y s (d + n)
  | 0 => rfl
  | n + 1 => by rw [ema, ema_shift q y s d n]; rfl

/-- Only the samples taken matter. -/
theorem ema_congr (q : ℝ) (y y' : ℕ → EReal) (s : EReal) : ∀ n, (∀ k, k < n → y k = y' k) → ema q y s n = ema q y' s n
  | 0, _ => rfl
  | n + 1, h => by rw [ema, ema, ema_congr q y y' s n fun k hk => h k (by omega), h n (by omega)]

/-- Nonnegative samples keep a nonnegative state nonnegative. -/
theorem ema_nonneg (q : ℝ) (hq : 0 ≤ q) (y : ℕ → EReal) (s : EReal) (hs : 0 ≤ s) (hy : ∀ k, 0 ≤ y k) : ∀ n, 0 ≤ ema q y s n
  | 0 => hs
  | n + 1 => add_nonneg (EReal.mul_nonneg (ema_nonneg q hq y s hs hy n) (EReal.coe_nonneg.2 hq)) (hy n)

/-- A square is nonnegative. -/
theorem sq_nonneg_ereal (x : EReal) : 0 ≤ x * x := by
  rcases le_total 0 x with h | h
  · exact EReal.mul_nonneg h h
  · rw [← neg_mul_neg]; exact EReal.mul_nonneg (EReal.neg_nonneg.2 h) (EReal.neg_nonneg.2 h)

end Cert.Smooth

end
-- ==== Proof.IdealDouble.lean ====
/-
  The ten doubling steps at the extended reals: from the samples of a block they make, lane by lane, the decayed sum of
  all the block's samples up to the lane; with the decayed carry added this is the smoothing recursion.
-/
module

public import proofs.«01_k».proof.Proof.IdealPay
public import proofs.«01_k».proof.Proof.Smooth
public import Idealize.ShloMosaic.Lib.IdealHost

@[expose] public section

set_option maxRecDepth 16384

noncomputable section

namespace Cert.KernelIdeal.Hand

open Cert.KernelIdeal Cert.KernelIdeal.Gen Cert.Smooth
open Idealize.ShloMosaic hiding ix1 ix2 ix3 ix4 ix5 eq_ix1 eq_ix2 eq_ix3 eq_ix4 eq_ix5
open Idealize.ShloMosaic.ValueIdx

/-- Lanes turned by `d`, read at a lane the turn brought from inside the block. -/
theorem turned_apply (d e : ℕ) (hde : d + e = 1024) (v : FVec Ideal S257x1024 .f32)
    (h₁ : S257x1024.Slices ![0, e] ⟨2, ![257, d]⟩) (h₂ : S257x1024.Slices ![0, 0] ⟨2, ![257, e]⟩)
    (h₃ : Shape.Concatenates [⟨2, ![257, d]⟩, ⟨2, ![257, e]⟩] S257x1024 1) (f : Fin 257) (t : Fin 1024) (ht : d ≤ t.val) :
    concatenate S257x1024 1 [⟨⟨2, ![257, d]⟩, extractStridedSlice ⟨2, ![257, d]⟩ ![0, e] v h₁⟩,
      ⟨⟨2, ![257, e]⟩, extractStridedSlice ⟨2, ![257, e]⟩ ![0, 0] v h₂⟩] h₃ (ix2 f t)
      = v (ix2 f ⟨t.val - d, by omega⟩) := by
  have hlt : t.val - d < e := by omega
  refine (concatenate_pair_apply_right (t := S257x1024) (s₁ := ⟨2, ![257, d]⟩) (s₂ := ⟨2, ![257, e]⟩) 1 _ _ h₃ (ix2 f t) rfl rfl
    (ix2 f ⟨t.val - d, hlt⟩) ?_ ?_).trans ?_
  · intro b hb
    match b with
    | ⟨0, _⟩ => rfl
    | ⟨1, _⟩ => exact absurd rfl hb
  · show t.val - d + d = t.val
    omega
  · refine extractStridedSlice_apply _ v h₂ _ _ fun a => ?_
    match a with
    | ⟨0, _⟩ => exact (Nat.zero_add _).symm
    | ⟨1, _⟩ => exact (Nat.zero_add _).symm

/-- One doubling step. -/
theorem doubling_step (d e : ℕ) (hde : d + e = 1024) (q : ℝ) (hq : 0 ≤ q) (y : ℕ → EReal) (f : Fin 257)
    (D : Vec Ideal S1x257x1024 .f32) (hD : ∀ t : Fin 1024, D (ix3 0 f t) = if d ≤ t.val then ((q ^ d : ℝ) : EReal) else 0)
    (v : FVec Ideal S257x1024 .f32) (hv : ∀ t : Fin 1024, v (ix2 f t) = stretch q y d t.val)
    (h₀ : S1x257x1024.ShapeCasts S257x1024)
    (h₁ : S257x1024.Slices ![0, e] ⟨2, ![257, d]⟩) (h₂ : S257x1024.Slices ![0, 0] ⟨2, ![257, e]⟩)
    (h₃ : Shape.Concatenates [⟨2, ![257, d]⟩, ⟨2, ![257, e]⟩] S257x1024 1) (t : Fin 1024) :
    addf v (mulf (shapeCast S257x1024 D h₀)
      (concatenate S257x1024 1 [⟨⟨2, ![257, d]⟩, extractStridedSlice ⟨2, ![257, d]⟩ ![0, e] v h₁⟩,
        ⟨⟨2, ![257, e]⟩, extractStridedSlice ⟨2, ![257, e]⟩ ![0, 0] v h₂⟩] h₃)) (ix2 f t)
      = stretch q y (d + d) t.val := by
  show v (ix2 f t) + shapeCast S257x1024 D h₀ (ix2 f t) * concatenate S257x1024 1
      [⟨⟨2, ![257, d]⟩, extractStridedSlice ⟨2, ![257, d]⟩ ![0, e] v h₁⟩,
        ⟨⟨2, ![257, e]⟩, extractStridedSlice ⟨2, ![257, e]⟩ ![0, 0] v h₂⟩] h₃ (ix2 f t) = _
  rw [drop_row (F := Ideal), hD, hv, stretch_double q hq]
  by_cases h : d ≤ t.val
  · rw [if_pos h, if_pos h, turned_apply d e hde v h₁ h₂ h₃ f t h, hv]
  · rw [if_neg h, if_neg h, zero_mul]

theorem decay0_apply (X : Vec Ideal S10x257x1024 .f32) (f : Fin 257) (t : Fin 1024) :
    decay0 X (ix3 0 f t) = X (ix3 0 f t) := by
  unfold decay0
  rw [View.ld_unit]
  refine extractStridedSlice_apply _ X _ _ _ fun a => ?_
  fin_cases a <;> simp
theorem decay1_apply (X : Vec Ideal S10x257x1024 .f32) (f : Fin 257) (t : Fin 1024) :
    decay1 X (ix3 0 f t) = X (ix3 1 f t) := by
  unfold decay1
  rw [View.ld_unit]
  refine extractStridedSlice_apply _ X _ _ _ fun a => ?_
  fin_cases a <;> simp
theorem decay2_apply (X : Vec Ideal S10x257x1024 .f32) (f : Fin 257) (t : Fin 1024) :
    decay2 X (ix3 0 f t) = X (ix3 2 f t) := by
  unfold decay2
  rw [View.ld_unit]
  refine extractStridedSlice_apply _ X _ _ _ fun a => ?_
  fin_cases a <;> simp
theorem decay3_apply (X : Vec Ideal S10x257x1024 .f32) (f : Fin 257) (t : Fin 1024) :
    decay3 X (ix3 0 f t) = X (ix3 3 f t) := by
  unfold decay3
  rw [View.ld_unit]
  refine extractStridedSlice_apply _ X _ _ _ fun a => ?_
  fin_cases a <;> simp
theorem decay4_apply (X : Vec Ideal S10x257x1024 .f32) (f : Fin 257) (t : Fin 1024) :
    decay4 X (ix3 0 f t) = X (ix3 4 f t) := by
  unfold decay4
  rw [View.ld_unit]
  refine extractStridedSlice_apply _ X _ _ _ fun a => ?_
  fin_cases a <;> simp
theorem decay5_apply (X : Vec Ideal S10x257x1024 .f32) (f : Fin 257) (t : Fin 1024) :
    decay5 X (ix3 0 f t) = X (ix3 5 f t) := by
  unfold decay5
  rw [View.ld_unit]
  refine extractStridedSlice_apply _ X _ _ _ fun a => ?_
  fin_cases a <;> simp
theorem decay6_apply (X : Vec Ideal S10x257x1024 .f32) (f : Fin 257) (t : Fin 1024) :
    decay6 X (ix3 0 f t) = X (ix3 6 f t) := by
  unfold decay6
  rw [View.ld_unit]
  refine extractStridedSlice_apply _ X _ _ _ fun a => ?_
  fin_cases a <;> simp
theorem decay7_apply (X : Vec Ideal S10x257x1024 .f32) (f : Fin 257) (t : Fin 1024) :
    decay7 X (ix3 0 f t) = X (ix3 7 f t) := by
  unfold decay7
  rw [View.ld_unit]
  refine extractStridedSlice_apply _ X _ _ _ fun a => ?_
  fin_cases a <;> simp
theorem decay8_apply (X : Vec Ideal S10x257x1024 .f32) (f : Fin 257) (t : Fin 1024) :
    decay8 X (ix3 0 f t) = X (ix3 8 f t) := by
  unfold decay8
  rw [View.ld_unit]
  refine extractStridedSlice_apply _ X _ _ _ fun a => ?_
  fin_cases a <;> simp
theorem decay9_apply (X : Vec Ideal S10x257x1024 .f32) (f : Fin 257) (t : Fin 1024) :
    decay9 X (ix3 0 f t) = X (ix3 9 f t) := by
  unfold decay9
  rw [View.ld_unit]
  refine extractStridedSlice_apply _ X _ _ _ fun a => ?_
  fin_cases a <;> simp

/-- What the decay tables hold for one frequency: table `k` is `q ^ 2 ^ k`, and 0 in the first `2 ^ k` lanes. -/
def DecayTables (X : Vec Ideal S10x257x1024 .f32) (q : ℝ) (f : Fin 257) : Prop :=
  ∀ (k : Fin 10) (t : Fin 1024), X (ix3 k f t) = if 2 ^ k.val ≤ t.val then ((q ^ 2 ^ k.val : ℝ) : EReal) else 0

variable (q : ℝ) (hq : 0 ≤ q) (y : ℕ → EReal) (f : Fin 257) (X7 : Vec Ideal S10x257x1024 .f32) (hX : DecayTables X7 q f)
  (w : FVec Ideal S257x1024 .f32) (hw : ∀ t : Fin 1024, w (ix2 f t) = y t.val)
include hq hX hw

/-- After six steps: sums over 64 lanes. -/
theorem sixSteps_apply (t : Fin 1024) : sixSteps w X7 (ix2 f t) = stretch q y 64 t.val := by
  have h0 := doubling_step 1 1023 rfl q hq y f (decay0 X7) (fun t => (decay0_apply X7 f t).trans (hX 0 t)) _ (fun t => (hw t).trans (stretch_one q y t.val).symm)
    shapeCasts_S1x257x1024_S257x1024 slices_S257x1024_o0_1023_S257x1 slices_S257x1024_o0_0_S257x1023
    concatenates_S257x1_S257x1023_S257x1024_d1
  have h1 := doubling_step 2 1022 rfl q hq y f (decay1 X7) (fun t => (decay1_apply X7 f t).trans (hX 1 t)) _ h0
    shapeCasts_S1x257x1024_S257x1024 slices_S257x1024_o0_1022_S257x2 slices_S257x1024_o0_0_S257x1022
    concatenates_S257x2_S257x1022_S257x1024_d1
  have h2 := doubling_step 4 1020 rfl q hq y f (decay2 X7) (fun t => (decay2_apply X7 f t).trans (hX 2 t)) _ h1
    shapeCasts_S1x257x1024_S257x1024 slices_S257x1024_o0_1020_S257x4 slices_S257x1024_o0_0_S257x1020
    concatenates_S257x4_S257x1020_S257x1024_d1
  have h3 := doubling_step 8 1016 rfl q hq y f (decay3 X7) (fun t => (decay3_apply X7 f t).trans (hX 3 t)) _ h2
    shapeCasts_S1x257x1024_S257x1024 slices_S257x1024_o0_1016_S257x8 slices_S257x1024_o0_0_S257x1016
    concatenates_S257x8_S257x1016_S257x1024_d1
  have h4 := doubling_step 16 1008 rfl q hq y f (decay4 X7) (fun t => (decay4_apply X7 f t).trans (hX 4 t)) _ h3
    shapeCasts_S1x257x1024_S257x1024 slices_S257x1024_o0_1008_S257x16 slices_S257x1024_o0_0_S257x1008
    concatenates_S257x16_S257x1008_S257x1024_d1
  have h5 := doubling_step 32 992 rfl q hq y f (decay5 X7) (fun t => (decay5_apply X7 f t).trans (hX 5 t)) _ h4
    shapeCasts_S1x257x1024_S257x1024 slices_S257x1024_o0_992_S257x32 slices_S257x1024_o0_0_S257x992
    concatenates_S257x32_S257x992_S257x1024_d1
  unfold sixSteps k0_pay10
  exact h5 t

/-- After all ten, with the decayed carry: the recursion from the carry. -/
theorem smoothed_apply (X6 C : Vec Ideal S257x1024 .f32) (s : EReal)
    (hp : ∀ t : Fin 1024, X6 (ix2 f t) = ((q ^ (t.val + 1) : ℝ) : EReal)) (hC : ∀ t : Fin 1024, C (ix2 f t) = s) (t : Fin 1024) :
    k0_pay11 (sixSteps w X7) (decay6 X7) (decay7 X7) (decay8 X7) (decay9 X7) X6 C (ix2 f t) = ema q y s (t.val + 1) := by
  have h5 := sixSteps_apply q hq y f X7 hX w hw
  have h6 := doubling_step 64 960 rfl q hq y f (decay6 X7) (fun t => (decay6_apply X7 f t).trans (hX 6 t)) _ h5
    shapeCasts_S1x257x1024_S257x1024 slices_S257x1024_o0_960_S257x64 slices_S257x1024_o0_0_S257x960
    concatenates_S257x64_S257x960_S257x1024_d1
  have h7 := doubling_step 128 896 rfl q hq y f (decay7 X7) (fun t => (decay7_apply X7 f t).trans (hX 7 t)) _ h6
    shapeCasts_S1x257x1024_S257x1024 slices_S257x1024_o0_896_S257x128 slices_S257x1024_o0_0_S257x896
    concatenates_S257x128_S257x896_S257x1024_d1
  have h8 := doubling_step 256 768 rfl q hq y f (decay8 X7) (fun t => (decay8_apply X7 f t).trans (hX 8 t)) _ h7
    shapeCasts_S1x257x1024_S257x1024 slices_S257x1024_o0_768_S257x256 slices_S257x1024_o0_0_S257x768
    concatenates_S257x256_S257x768_S257x1024_d1
  have h9 := doubling_step 512 512 rfl q hq y f (decay9 X7) (fun t => (decay9_apply X7 f t).trans (hX 9 t)) _ h8
    shapeCasts_S1x257x1024_S257x1024 slices_S257x1024_o0_512_S257x512 slices_S257x1024_o0_0_S257x512
    concatenates_S257x512_S257x512_S257x1024_d1
  have key : shapeCast S257x1024 X6 shapeCasts_S257x1024_S257x1024 (ix2 f t) * C (ix2 f t) = ((q ^ (t.val + 1) : ℝ) : EReal) * s := by
    rw [shapeCast_self, hp, hC]
  unfold k0_pay11
  exact (congrArg₂ (· + ·) (h9 t) key).trans (stretch_add_state q hq y s 1024 t.val t.isLt)

/-- The root of the smoothed block. -/
theorem blockRoot_apply (X6 C : Vec Ideal S257x1024 .f32) (s : EReal)
    (hp : ∀ t : Fin 1024, X6 (ix2 f t) = ((q ^ (t.val + 1) : ℝ) : EReal)) (hC : ∀ t : Fin 1024, C (ix2 f t) = s) (t : Fin 1024) :
    blockRoot w X6 X7 C (ix2 f t) = Ideal.sqrt (ema q y s (t.val + 1)) := by
  unfold blockRoot k0_pay13
  exact congrArg Ideal.sqrt (smoothed_apply q hq y f X7 hX w hw X6 C s hp hC t)

/-- The carry handed on: the state after the block's last lane, in every lane. -/
theorem carryOut_apply (X6 C : Vec Ideal S257x1024 .f32) (s : EReal)
    (hp : ∀ t : Fin 1024, X6 (ix2 f t) = ((q ^ (t.val + 1) : ℝ) : EReal)) (hC : ∀ t : Fin 1024, C (ix2 f t) = s) (t : Fin 1024) :
    carryOut w X6 X7 C (ix2 f t) = ema q y s 1024 := by
  unfold carryOut k0_pay12
  refine (congrFun (shapeCast_self _ _) _).trans ?_
  refine (broadcastTo_apply _ _ _ (ix2 f 0) fun a => ?_).trans ?_
  · match a with
    | ⟨0, _⟩ => rfl
    | ⟨1, _⟩ => rfl
  refine (congrFun (shapeCast_self _ _) _).trans ?_
  refine (extractStridedSlice_apply _ _ _ _ (ix2 f 1023) fun a => ?_).trans
    (smoothed_apply q hq y f X7 hX w hw X6 C s hp hC 1023)
  match a with
  | ⟨0, _⟩ => exact (Nat.zero_add _).symm
  | ⟨1, _⟩ => rfl

end Cert.KernelIdeal.Hand

end
-- ==== Proof.Weight.lean ====
/-
  The real-number facts the two programs' values meet on: the smoothing weight is a real between 0 and 1, the powers of
  the decay come out of the logarithm, and dividing by a root plus a positive constant is multiplying by its reciprocal.
-/
module

public import Idealize.ShloMosaic.PureOps.Ideal
public import Idealize.ShloMosaic.Lib.IdealHost

@[expose] public section

noncomputable section

namespace Cert.Smooth

open Idealize.ShloMosaic

/-- The logistic function as the programs compute it. -/
def weight (x : EReal) : EReal := Ideal.div 1 (1 + Ideal.exp (-x))

/-- It is a real between 0 and 1. -/
theorem weight_real (x : EReal) : ∃ a : ℝ, 0 ≤ a ∧ a ≤ 1 ∧ weight x = (a : EReal) := by
  unfold weight
  induction x with
  | bot =>
    refine ⟨0, le_refl _, zero_le_one, ?_⟩
    rw [EReal.neg_bot, show Ideal.exp ⊤ = ⊤ from rfl, show (1 : EReal) + ⊤ = ⊤ from EReal.coe_add_top 1]
    unfold Ideal.div
    rw [if_neg (by simp)]; simp
  | top =>
    refine ⟨1, zero_le_one, le_refl _, ?_⟩
    rw [EReal.neg_top, show Ideal.exp ⊥ = 0 from rfl, add_zero]
    unfold Ideal.div
    rw [if_neg one_ne_zero, one_mul, ← EReal.coe_one, ← EReal.coe_inv]; norm_num
  | coe r =>
    have hp : 0 < 1 + Real.exp (-r) := by positivity
    refine ⟨1 / (1 + Real.exp (-r)), by positivity, ?_, ?_⟩
    · rw [div_le_one hp]; linarith [Real.exp_pos (-r)]
    · rw [← EReal.coe_neg, Ideal.exp_coe, ← EReal.coe_one, ← EReal.coe_add, Ideal.div_coe hp.ne', EReal.coe_one, one_mul]

/-- One less the weight. -/
theorem one_sub_real (a : ℝ) : (1 : EReal) - (a : EReal) = ((1 - a : ℝ) : EReal) := by
  rw [← EReal.coe_one, ← EReal.coe_sub]

/-- A power of the decay, computed through its logarithm. -/
theorem decay_pow (a : ℝ) (h1 : a ≤ 1) (n : ℕ) (hn : 0 < n) :
    Ideal.exp (Ideal.log1p (-(a : EReal)) * ((n : ℝ) : EReal)) = (((1 - a) ^ n : ℝ) : EReal) := by
  have e : (1 : EReal) + -(a : EReal) = ((1 - a : ℝ) : EReal) := by rw [← one_sub_real]; rfl
  unfold Ideal.log1p
  rw [e, Ideal.log_coe]
  by_cases h : 1 - a ≤ 0
  · have ha : 1 - a = 0 := by linarith
    rw [if_pos h, EReal.bot_mul_coe_of_pos (by exact_mod_cast hn), show Ideal.exp ⊥ = 0 from rfl, ha, zero_pow hn.ne', EReal.coe_zero]
  · push Not at h
    rw [if_neg (not_le.2 h), ← EReal.coe_mul, Ideal.exp_coe, mul_comm, Real.exp_nat_mul, Real.exp_log h]

/-- The constant added to a root before dividing. -/
theorem eps_real : ∃ e : ℝ, 0 < e ∧ Ideal.ofBits .f32 0x322BCC77#32 = (e : EReal) := by
  refine ⟨11258999 / 2 ^ 50, by norm_num, ?_⟩
  simp [Ideal.ofBits, Ideal.ieee, -EReal.coe_mul]; norm_num

/-- A root plus a positive constant is not 0. -/
theorem sqrt_add_ne_zero (s : EReal) (e : ℝ) (he : 0 < e) : Ideal.sqrt s + (e : EReal) ≠ 0 := by
  induction s with
  | bot => rw [show Ideal.sqrt ⊥ = ⊥ from rfl]; simp
  | top => rw [show Ideal.sqrt ⊤ = ⊤ from rfl]; simp
  | coe r =>
    rw [Ideal.sqrt_coe]
    split
    · simp
    · rw [← EReal.coe_add, ← EReal.coe_zero, Ne, EReal.coe_eq_coe_iff]
      linarith [Real.sqrt_nonneg r]

/-- Dividing by a root plus the constant, then scaling, is multiplying by the scaled reciprocal. -/
theorem div_scale (x s w : EReal) : Ideal.div x (Ideal.sqrt s + Ideal.ofBits .f32 0x322BCC77#32) * w
    = x * (Ideal.div 1 (Ideal.sqrt s + Ideal.ofBits .f32 0x322BCC77#32) * w) := by
  obtain ⟨e, he, h⟩ := eps_real
  rw [h]
  unfold Ideal.div
  rw [if_neg (sqrt_add_ne_zero s e he), if_neg (sqrt_add_ne_zero s e he), one_mul, mul_assoc]

/-- The square of the root of a nonnegative value. -/
theorem sqrt_mul_self (s : EReal) (hs : 0 ≤ s) : Ideal.sqrt s * Ideal.sqrt s = s := by
  induction s with
  | bot => simp at hs
  | top => rw [show Ideal.sqrt ⊤ = ⊤ from rfl]; simp
  | coe r =>
    have hr : 0 ≤ r := EReal.coe_nonneg.1 hs
    rw [Ideal.sqrt_coe, if_neg (not_lt.2 hr), ← EReal.coe_mul, Real.mul_self_sqrt hr]

end Cert.Smooth

end
-- ==== Proof.IdealEntry.lean ====
/-
  The region's input arrays at the extended reals, index by index: the smoothing weight a real `a` in [0, 1], the powers
  of the decay `1 - a`, the ten decay tables, the state, the scale, the offset and the parts of the input.
-/
module

public import proofs.«01_k».proof.Proof.IdealPrefix
public import proofs.«01_k».proof.Proof.IdealDouble
public import proofs.«01_k».proof.Proof.Weight

@[expose] public section

set_option maxRecDepth 16384

noncomputable section

namespace Cert.KernelIdeal.Hand

open Cert.KernelIdeal Cert.KernelIdeal.Gen Cert.Smooth
open Idealize.ShloMosaic hiding ix1 ix2 ix3 ix4 ix5 eq_ix1 eq_ix2 eq_ix3 eq_ix4 eq_ix5
open Idealize.ShloMosaic.TcCoe Idealize.ShloMosaic.ValueIdx

/-- The weight of a frequency. -/
theorem weightRow_apply (A : FVec Ideal S1x1x257x1 .f32) (f : Fin 257) : weightRow A (ix1 f) = weight (A (ix4 0 0 f 0)) := by
  have e : shapeCast S257 A shapeCasts_S1x1x257x1_S257 (ix1 f) = A (ix4 0 0 f 0) := by
    refine shapeCast_apply A _ _ _ ?_
    rw [Shape.rowMajor_val_one, Shape.rowMajor_val_succ, Shape.rowMajor_val_succ, Shape.rowMajor_val_two]
    simp
  show Ideal.div (Ideal.ofBits .f32 0x3F800000#32) (Ideal.ofBits .f32 0x3F800000#32
    + Ideal.exp (-(shapeCast S257 A shapeCasts_S1x1x257x1_S257 (ix1 f)))) = _
  rw [e, Ideal.ofBits_one_f32]; rfl

/-- The number of a lane. -/
theorem laneRow_apply (t : Fin 1024) : laneRow (F := Ideal) (ix2 0 t) = ((t.val : ℝ) : EReal) := by
  show (((BitVec.ofNat 32 t.val).toInt : ℝ) : EReal) = _
  rw [BitVec.toInt_ofNat', Int.bmod_eq_of_le (by omega) (by omega)]
  norm_cast

variable (A : FVec Ideal S1x1x257x1 .f32) (f : Fin 257) (a : ℝ) (h1 : a ≤ 1) (ha : weight (A (ix4 0 0 f 0)) = (a : EReal))
include h1 ha

/-- The powers of the decay. -/
theorem powerTable_apply (t : Fin 1024) : powerTable A (ix2 f t) = (((1 - a) ^ (t.val + 1) : ℝ) : EReal) := by
  show Ideal.exp (Ideal.log1p (-(weightRow A (ix1 f))) * (laneRow (F := Ideal) (ix2 0 t) + Ideal.ofBits .f32 0x3F800000#32)) = _
  rw [weightRow_apply, ha, laneRow_apply, Ideal.ofBits_one_f32, ← EReal.coe_one, ← EReal.coe_add, ← decay_pow a h1 _ (Nat.succ_pos _)]
  norm_cast

/-- A decay table: the decay over `d` steps from lane `d` on, 0 before. -/
theorem decaySlab_apply (b : BitVec 32) (d : ℕ) (hd : 0 < d) (hb : Ideal.ofBits .f32 b = ((d : ℝ) : EReal)) (t : Fin 1024) :
    decaySlab A b (ix3 0 f t) = if d ≤ t.val then (((1 - a) ^ d : ℝ) : EReal) else 0 := by
  show (if Ideal.cmp .oge (laneRow (F := Ideal) (ix2 0 t)) (Ideal.ofBits .f32 b) = 1#1 then
    Ideal.exp (Ideal.log1p (-(weightRow A (ix1 f))) * Ideal.ofBits .f32 b) else Ideal.ofBits .f32 0x00000000#32) = _
  rw [weightRow_apply, ha, laneRow_apply, hb, decay_pow a h1 d hd, Ideal.ofBits_zero_f32]
  refine if_congr ?_ rfl rfl
  unfold Ideal.cmp
  by_cases h : d ≤ t.val <;> simp [h]

/-- The ten tables. -/
theorem decayTables_apply : DecayTables (decayTables A) (1 - a) f := by
  intro k t
  have piece : ∀ (k : Fin 10) (b : BitVec 32), Ideal.ofBits .f32 b = (((2 ^ k.val : ℕ) : ℝ) : EReal) →
      decayTables A (ix3 k f t) = decaySlab A b (ix3 0 f t) →
      decayTables A (ix3 k f t) = if 2 ^ k.val ≤ t.val then (((1 - a) ^ 2 ^ k.val : ℝ) : EReal) else 0 := by
    intro k b hb he
    rw [he]
    exact decaySlab_apply A f a h1 ha b _ (by positivity) hb t
  have lead : ∀ {k : Fin 10} (b : Fin 3), b ≠ (0 : Fin 3) → ((ix3 (0 : Fin 1) f t : S1x257x1024.Idx) b).val = ((ix3 k f t : S10x257x1024.Idx) b).val := by
    intro k b hb
    fin_cases b <;> first | exact absurd rfl hb | rfl
  match k with
  | ⟨0, _⟩ =>
    refine piece 0 0x3F800000#32 (by simp [Ideal.ofBits, Ideal.ieee, -EReal.coe_mul]; norm_num) ?_
    unfold decayTables
    refine concatenate_apply_piece (t := S10x257x1024) 0 _ _ _ 0 (Nat.lt_of_sub_eq_succ rfl) S1x257x1024 _ rfl rfl 0 rfl (ix3 0 f t) ?_ rfl
    exact fun b hb => lead b hb
  | ⟨1, _⟩ =>
    refine piece 1 0x40000000#32 (by simp [Ideal.ofBits, Ideal.ieee, -EReal.coe_mul]; norm_num) ?_
    unfold decayTables
    refine concatenate_apply_piece (t := S10x257x1024) 0 _ _ _ 1 (Nat.lt_of_sub_eq_succ rfl) S1x257x1024 _ rfl rfl 1 rfl (ix3 0 f t) ?_ rfl
    exact fun b hb => lead b hb
  | ⟨2, _⟩ =>
    refine piece 2 0x40800000#32 (by simp [Ideal.ofBits, Ideal.ieee, -EReal.coe_mul]; norm_num) ?_
    unfold decayTables
    refine concatenate_apply_piece (t := S10x257x1024) 0 _ _ _ 2 (Nat.lt_of_sub_eq_succ rfl) S1x257x1024 _ rfl rfl 2 rfl (ix3 0 f t) ?_ rfl
    exact fun b hb => lead b hb
  | ⟨3, _⟩ =>
    refine piece 3 0x41000000#32 (by simp [Ideal.ofBits, Ideal.ieee, -EReal.coe_mul]; norm_num) ?_
    unfold decayTables
    refine concatenate_apply_piece (t := S10x257x1024) 0 _ _ _ 3 (Nat.lt_of_sub_eq_succ rfl) S1x257x1024 _ rfl rfl 3 rfl (ix3 0 f t) ?_ rfl
    exact fun b hb => lead b hb
  | ⟨4, _⟩ =>
    refine piece 4 0x41800000#32 (by simp [Ideal.ofBits, Ideal.ieee, -EReal.coe_mul]; norm_num) ?_
    unfold decayTables
    refine concatenate_apply_piece (t := S10x257x1024) 0 _ _ _ 4 (Nat.lt_of_sub_eq_succ rfl) S1x257x1024 _ rfl rfl 4 rfl (ix3 0 f t) ?_ rfl
    exact fun b hb => lead b hb
  | ⟨5, _⟩ =>
    refine piece 5 0x42000000#32 (by simp [Ideal.ofBits, Ideal.ieee, -EReal.coe_mul]; norm_num) ?_
    unfold decayTables
    refine concatenate_apply_piece (t := S10x257x1024) 0 _ _ _ 5 (Nat.lt_of_sub_eq_succ rfl) S1x257x1024 _ rfl rfl 5 rfl (ix3 0 f t) ?_ rfl
    exact fun b hb => lead b hb
  | ⟨6, _⟩ =>
    refine piece 6 0x42800000#32 (by simp [Ideal.ofBits, Ideal.ieee, -EReal.coe_mul]; norm_num) ?_
    unfold decayTables
    refine concatenate_apply_piece (t := S10x257x1024) 0 _ _ _ 6 (Nat.lt_of_sub_eq_succ rfl) S1x257x1024 _ rfl rfl 6 rfl (ix3 0 f t) ?_ rfl
    exact fun b hb => lead b hb
  | ⟨7, _⟩ =>
    refine piece 7 0x43000000#32 (by simp [Ideal.ofBits, Ideal.ieee, -EReal.coe_mul]; norm_num) ?_
    unfold decayTables
    refine concatenate_apply_piece (t := S10x257x1024) 0 _ _ _ 7 (Nat.lt_of_sub_eq_succ rfl) S1x257x1024 _ rfl rfl 7 rfl (ix3 0 f t) ?_ rfl
    exact fun b hb => lead b hb
  | ⟨8, _⟩ =>
    refine piece 8 0x43800000#32 (by simp [Ideal.ofBits, Ideal.ieee, -EReal.coe_mul]; norm_num) ?_
    unfold decayTables
    refine concatenate_apply_piece (t := S10x257x1024) 0 _ _ _ 8 (Nat.lt_of_sub_eq_succ rfl) S1x257x1024 _ rfl rfl 8 rfl (ix3 0 f t) ?_ rfl
    exact fun b hb => lead b hb
  | ⟨9, _⟩ =>
    refine piece 9 0x44000000#32 (by simp [Ideal.ofBits, Ideal.ieee, -EReal.coe_mul]; norm_num) ?_
    unfold decayTables
    refine concatenate_apply_piece (t := S10x257x1024) 0 _ _ _ 9 (Nat.lt_of_sub_eq_succ rfl) S1x257x1024 _ rfl rfl 9 rfl (ix3 0 f t) ?_ rfl
    exact fun b hb => lead b hb

end Cert.KernelIdeal.Hand

end
-- ==== Proof.Spec.lean ====
/-
  What both programs compute, element by element, at the extended reals: the smoothed power of channel 0 as a recursion
  over time, its root, its last value, and the input normalised by the root (channel 0) or its own modulus (channel 1).
-/
module

public import proofs.«01_k».proof.Proof.Smooth
public import proofs.«01_k».proof.Proof.Weight
public import Idealize.ShloMosaic.Lib.ValueIdx

@[expose] public section

noncomputable section

namespace Cert.Smooth

open Idealize.ShloMosaic
open Idealize.ShloMosaic.ValueIdx

/-- An input array, a state and a parameter, a scale or an offset. -/
abbrev InArr : Type := (⟨5, ![16, 2, 2000, 257, 2]⟩ : Shape).Idx → EReal
abbrev StArr : Type := (⟨4, ![16, 1, 257, 1]⟩ : Shape).Idx → EReal
abbrev ScArr : Type := (⟨5, ![1, 2, 1, 257, 1]⟩ : Shape).Idx → EReal
abbrev PaArr : Type := (⟨4, ![1, 1, 257, 1]⟩ : Shape).Idx → EReal
abbrev SmArr : Type := (⟨5, ![16, 1, 2000, 257, 1]⟩ : Shape).Idx → EReal

variable (X : InArr) (S : StArr) (W B : ScArr) (A : PaArr)

/-- The squared modulus. -/
def powerOf (b : Fin 16) (ch : Fin 2) (t : Fin 2000) (f : Fin 257) : EReal :=
  X (ix5 b ch t f 0) * X (ix5 b ch t f 0) + X (ix5 b ch t f 1) * X (ix5 b ch t f 1)
/-- A frequency's smoothing weight, a real in [0, 1]. -/
def weightOf (f : Fin 257) : ℝ := (weight (A (ix4 0 0 f 0))).toReal
theorem weightOf_eq (f : Fin 257) : weight (A (ix4 0 0 f 0)) = (weightOf A f : EReal) := by
  obtain ⟨a, _, _, h⟩ := weight_real (A (ix4 0 0 f 0))
  rw [weightOf, h, EReal.toReal_coe]
theorem weightOf_nonneg (f : Fin 257) : 0 ≤ weightOf A f := by
  obtain ⟨a, h0, _, h⟩ := weight_real (A (ix4 0 0 f 0))
  rwa [weightOf, h, EReal.toReal_coe]
theorem weightOf_le_one (f : Fin 257) : weightOf A f ≤ 1 := by
  obtain ⟨a, _, h1, h⟩ := weight_real (A (ix4 0 0 f 0))
  rwa [weightOf, h, EReal.toReal_coe]

/-- The weighted power at time `n`, 0 past the end. -/
def sample (b : Fin 16) (f : Fin 257) (n : ℕ) : EReal := if h : n < 2000 then powerOf X b 0 ⟨n, h⟩ f * (weightOf A f : EReal) else 0
/-- The smoothed power after `n` times. -/
def state (b : Fin 16) (f : Fin 257) (n : ℕ) : EReal := ema (1 - weightOf A f) (sample X A b f) (S (ix4 b 0 f 0)) n
/-- What an element is divided by. -/
def divisorOf (b : Fin 16) (ch : Fin 2) (t : Fin 2000) (f : Fin 257) : EReal :=
  if ch = 0 then Ideal.sqrt (state X S A b f (t.val + 1)) else Ideal.sqrt (powerOf X b 1 t f)
/-- A normalised element. -/
def normOf (b : Fin 16) (ch : Fin 2) (t : Fin 2000) (f : Fin 257) (p : Fin 2) : EReal :=
  X (ix5 b ch t f p) * (Ideal.div 1 (divisorOf X S A b ch t f + Ideal.ofBits .f32 0x322BCC77#32) * W (ix5 0 ch 0 f 0)) + B (ix5 0 ch 0 f 0)

/-- The three results. -/
def resArr : InArr := fun j => normOf X S W B A (j 0) (j 1) (j 2) (j 3) (j 4)
def lastArr : StArr := fun j => state X S A (j 0) (j 2) 2000
def smoothArr : SmArr := fun j => Ideal.sqrt (state X S A (j 0) (j 3) ((j 2 : Fin 2000).val + 1))

theorem powerOf_nonneg (b : Fin 16) (ch : Fin 2) (t : Fin 2000) (f : Fin 257) : 0 ≤ powerOf X b ch t f :=
  add_nonneg (sq_nonneg_ereal _) (sq_nonneg_ereal _)
theorem sample_nonneg (b : Fin 16) (f : Fin 257) (n : ℕ) : 0 ≤ sample X A b f n := by
  unfold sample
  split
  · exact EReal.mul_nonneg (powerOf_nonneg X _ _ _ _) (EReal.coe_nonneg.2 (weightOf_nonneg A f))
  · exact le_refl _
/-- From a nonnegative state the smoothed power stays nonnegative. -/
theorem state_nonneg (b : Fin 16) (f : Fin 257) (hS : 0 ≤ S (ix4 b 0 f 0)) (n : ℕ) : 0 ≤ state X S A b f n :=
  ema_nonneg _ (by linarith [weightOf_le_one A f]) _ _ hS (sample_nonneg X A b f) n
/-- The other way to write a normalised element: divided first, then scaled. -/
theorem normOf_eq (b : Fin 16) (ch : Fin 2) (t : Fin 2000) (f : Fin 257) (p : Fin 2) : normOf X S W B A b ch t f p
    = Ideal.div (X (ix5 b ch t f p)) (divisorOf X S A b ch t f + Ideal.ofBits .f32 0x322BCC77#32) * W (ix5 0 ch 0 f 0) + B (ix5 0 ch 0 f 0) := by
  unfold normOf divisorOf
  split <;> exact congrArg (· + B (ix5 0 ch 0 f 0)) (div_scale _ _ _).symm

end Cert.Smooth

end
-- ==== Proof.IdealState.lean ====
/-
  The blocks the body leaves at a grid point, at the extended reals: the smoothed root of the block's times and the
  normalised block are the recursion's, for the lanes inside the time axis.
-/
module

public import proofs.«01_k».proof.Proof.IdealBlocks
public import proofs.«01_k».proof.Proof.IdealEntry
public import proofs.«01_k».proof.Proof.Spec

@[expose] public section

set_option maxRecDepth 16384

noncomputable section

namespace Cert.KernelIdeal.Hand

open Cert.KernelIdeal Cert.KernelIdeal.Gen Cert.Smooth
open Idealize.ShloMosaic hiding ix1 ix2 ix3 ix4 ix5 eq_ix1 eq_ix2 eq_ix3 eq_ix4 eq_ix5
open Idealize.ShloMosaic.TcCoe Idealize.ShloMosaic.ValueIdx

variable (m : (ℓ : Loc nD τ sig) → Buf (Elt Ideal) ℓ) (c : Dev nD)

/-- The arguments. -/
abbrev argX : InArr := m ((c : Thread nD τ).loc main_arg0)
abbrev argS : StArr := m ((c : Thread nD τ).loc main_arg1)
abbrev argW : ScArr := m ((c : Thread nD τ).loc main_arg2)
abbrev argB : ScArr := m ((c : Thread nD τ).loc main_arg3)
abbrev argA : PaArr := m ((c : Thread nD τ).loc main_arg4)

/-! ## The region's input arrays -/

theorem in_apply (p : Fin 2) (b : Fin 16) (ch : Fin 2) (f : Fin 257) (n : Fin 2000) :
    V m c main_v0 (ix5 p b ch f n) = argX m c (ix5 b ch n f p) := by
  rw [V_main_v0]
  refine transpose_apply _ _ _ _ _ fun a => ?_
  fin_cases a <;> rfl
theorem weight_apply (f : Fin 257) (l : Fin 1024) : V m c main_v111 (ix2 f l) = (weightOf (argA m c) f : EReal) := by
  rw [V_main_v111]
  exact (weightRow_apply _ f).trans (weightOf_eq _ f)
theorem decay_apply (f : Fin 257) (l : Fin 1024) :
    V m c main_v18 (ix2 f l) = (((1 - weightOf (argA m c) f) ^ (l.val + 1) : ℝ) : EReal) := by
  rw [V_main_v18]
  exact powerTable_apply _ f _ (weightOf_le_one _ f) (weightOf_eq _ f) l
theorem tables_apply (f : Fin 257) : DecayTables (V m c main_v109) (1 - weightOf (argA m c) f) f := by
  rw [V_main_v109]
  exact decayTables_apply _ f _ (weightOf_le_one _ f) (weightOf_eq _ f)
theorem state_apply (b : Fin 16) (f : Fin 257) (l : Fin 128) : V m c main_v113 (ix3 b f l) = argS m c (ix4 b 0 f 0) := by
  rw [V_main_v113]
  show shapeCast S16x257x1 _ _ (ix3 b f 0) = _
  refine shapeCast_apply _ _ _ _ ?_
  rw [Shape.rowMajor_val_succ, Shape.rowMajor_val_succ, Shape.rowMajor_val_two, Shape.rowMajor_val_succ, Shape.rowMajor_val_two]
  simp
  exact Or.inl rfl
theorem scale_apply (ch : Fin 2) (f : Fin 257) (l : Fin 128) : V m c main_v115 (ix3 ch f l) = argW m c (ix5 0 ch 0 f 0) := by
  rw [V_main_v115]
  show shapeCast S2x257x1 _ _ (ix3 ch f 0) = _
  refine shapeCast_apply _ _ _ _ ?_
  rw [Shape.rowMajor_val_succ, Shape.rowMajor_val_succ, Shape.rowMajor_val_succ, Shape.rowMajor_val_two, Shape.rowMajor_val_succ, Shape.rowMajor_val_two]
  simp
  exact Or.inl rfl
theorem offset_apply (ch : Fin 2) (f : Fin 257) (l : Fin 128) : V m c main_v117 (ix3 ch f l) = argB m c (ix5 0 ch 0 f 0) := by
  rw [V_main_v117]
  show shapeCast S2x257x1 _ _ (ix3 ch f 0) = _
  refine shapeCast_apply _ _ _ _ ?_
  rw [Shape.rowMajor_val_succ, Shape.rowMajor_val_succ, Shape.rowMajor_val_succ, Shape.rowMajor_val_two, Shape.rowMajor_val_succ, Shape.rowMajor_val_two]
  simp
  exact Or.inl rfl

/-! ## The smoothing across the grid -/

/-- The batch entry of a grid point. -/
def batch (t : Fin cfg0.N) : Fin 16 := grid0.coords t 0
theorem re_apply (t : Fin cfg0.N) (ch : Fin 2) (f : Fin 257) (l : Fin 1024) (h : (grid0.coords t 1).val * 1024 + l.val < 2000) :
    reBlk m c t (ix5 0 0 ch f l) = argX m c (ix5 (batch t) ch ⟨(grid0.coords t 1).val * 1024 + l.val, h⟩ f 0) :=
  (reBlk_apply m c t ch f l h).trans (in_apply m c 0 (batch t) ch f _)
theorem im_apply (t : Fin cfg0.N) (ch : Fin 2) (f : Fin 257) (l : Fin 1024) (h : (grid0.coords t 1).val * 1024 + l.val < 2000) :
    imBlk m c t (ix5 0 0 ch f l) = argX m c (ix5 (batch t) ch ⟨(grid0.coords t 1).val * 1024 + l.val, h⟩ f 1) :=
  (imBlk_apply m c t ch f l h).trans (in_apply m c 1 (batch t) ch f _)
theorem point_val : ∀ t : Fin cfg0.N, t.val = (batch t).val * 2 + (grid0.coords t 1).val := by decide +kernel
theorem block_lt : ∀ t : Fin cfg0.N, (grid0.coords t 1).val < 2 := by decide +kernel
theorem firstBlock_iff : ∀ t : Fin cfg0.N, firstBlock (grid0.coords t) ↔ (grid0.coords t 1).val = 0 := by decide +kernel

/-- A block's weighted samples. -/
theorem powerAt_apply (t : Fin cfg0.N) (f : Fin 257) (l : Fin 1024) :
    powerAt m c t (ix2 f l) = sample (argX m c) (argA m c) (batch t) f ((grid0.coords t 1).val * 1024 + l.val) := by
  unfold powerAt sample
  rw [weighted_apply]
  by_cases h : (grid0.coords t 1).val * 1024 + l.val < 2000
  · rw [if_pos h, dif_pos h, re_apply m c t 0 f l h, im_apply m c t 0 f l h, iblk_3, weight_apply]
    rfl
  · rw [if_neg h, dif_neg h]
    exact Ideal.ofBits_zero_f32

/-- The decay powers and tables of a block. -/
theorem powers_blk (t : Fin cfg0.N) (f : Fin 257) (l : Fin 1024) :
    (iblk m c 4 t : Vec Ideal S257x1024 .f32) (ix2 f l) = (((1 - weightOf (argA m c) f) ^ (l.val + 1) : ℝ) : EReal) :=
  (iblk_4 m c t f l).trans (decay_apply m c f l)
theorem tables_blk (t : Fin cfg0.N) (f : Fin 257) : DecayTables (iblk m c 5 t) (1 - weightOf (argA m c) f) f :=
  fun k l => (iblk_5 m c t k f l).trans (tables_apply m c f k l)

/-- The carry of a batch entry's first block is the initial state. -/
theorem carry_first (t : Fin cfg0.N) (h : (grid0.coords t 1).val = 0) (C : Vec Ideal S257x1024 .f32) (f : Fin 257) (l : Fin 1024) :
    carryIn (grid0.coords t) (iblk m c 2 t) C (ix2 f l) = state (argX m c) (argS m c) (argA m c) (batch t) f 0 := by
  unfold carryIn
  rw [if_pos ((firstBlock_iff t).2 h), carryInit_apply]
  exact (iblk_2 m c t f _).trans (state_apply m c (batch t) f _)

/-- The carry a block starts from is the state after the times before it. -/
theorem carry_apply (t : Fin cfg0.N) (f : Fin 257) (l : Fin 1024) :
    carryIn (grid0.coords t) (iblk m c 2 t) (carryAt m c t.val) (ix2 f l)
      = state (argX m c) (argS m c) (argA m c) (batch t) f ((grid0.coords t 1).val * 1024) := by
  by_cases h : (grid0.coords t 1).val = 0
  · rw [h]; exact carry_first m c t h _ f l
  · have h1 : (grid0.coords t 1).val = 1 := by have := block_lt t; omega
    have hv := point_val t
    have hlt : t.val - 1 < cfg0.N := lt_of_le_of_lt (Nat.sub_le _ _) t.isLt
    have hv' := point_val ⟨t.val - 1, hlt⟩
    have hb' := block_lt ⟨t.val - 1, hlt⟩
    have e1 : (grid0.coords ⟨t.val - 1, hlt⟩ 1).val = 0 := by
      simp only at hv'; omega
    have e0 : batch ⟨t.val - 1, hlt⟩ = batch t := by
      apply Fin.ext
      simp only at hv'; omega
    unfold carryIn
    rw [if_neg (fun hf => h ((firstBlock_iff t).1 hf)), show t.val = (⟨t.val - 1, hlt⟩ : Fin cfg0.N).val + 1 by simp only; omega, carryAt_succ]
    refine (carryOut_apply (1 - weightOf (argA m c) f) (by linarith [weightOf_le_one (argA m c) f])
      (fun k => sample (argX m c) (argA m c) (batch ⟨t.val - 1, hlt⟩) f ((grid0.coords ⟨t.val - 1, hlt⟩ 1).val * 1024 + k)) f _ (tables_blk m c _ f) _
      (fun l => powerAt_apply m c _ f l) _ _ _ (fun l => powers_blk m c _ f l) (fun l => carry_first m c _ e1 _ f l) l).trans ?_
    rw [e0, h1]
    unfold state
    refine ema_congr _ _ _ _ _ fun k _ => ?_
    rw [e1]; simp

/-- The root of the smoothed power, lane by lane. -/
theorem rootAt_apply (t : Fin cfg0.N) (f : Fin 257) (l : Fin 1024) : rootAt m c t (ix2 f l)
    = Ideal.sqrt (state (argX m c) (argS m c) (argA m c) (batch t) f ((grid0.coords t 1).val * 1024 + l.val + 1)) := by
  unfold rootAt
  rw [blockRoot_apply (1 - weightOf (argA m c) f) (by linarith [weightOf_le_one (argA m c) f])
    (fun k => sample (argX m c) (argA m c) (batch t) f ((grid0.coords t 1).val * 1024 + k)) f _ (tables_blk m c t f) _
    (fun l => powerAt_apply m c t f l) _ _ _ (fun l => powers_blk m c t f l) (fun l => carry_apply m c t f l) l]
  unfold state
  rw [ema_shift, Nat.add_assoc]

/-! ## The blocks written -/

/-- The smoothed block, inside the time axis. -/
theorem smoothAt_apply (t : Fin cfg0.N) (f : Fin 257) (l : Fin 1024) : smoothAt m c t (ix3 0 f l)
    = Ideal.sqrt (state (argX m c) (argS m c) (argA m c) (batch t) f ((grid0.coords t 1).val * 1024 + l.val + 1)) :=
  (smoothOut_apply _ f l).trans (rootAt_apply m c t f l)

/-- The normalised block, inside the time axis. -/
theorem resAt_apply (t : Fin cfg0.N) (p ch : Fin 2) (f : Fin 257) (l : Fin 1024) (h : (grid0.coords t 1).val * 1024 + l.val < 2000) :
    resAt m c t (ix5 p 0 ch f l) = normOf (argX m c) (argS m c) (argW m c) (argB m c) (argA m c) (batch t) ch
      ⟨(grid0.coords t 1).val * 1024 + l.val, h⟩ f p := by
  unfold resAt
  rw [resOut_apply]
  have hd : divisor (rootAt m c t) (reBlk m c t) (imBlk m c t) ch f l
      = divisorOf (argX m c) (argS m c) (argA m c) (batch t) ch ⟨(grid0.coords t 1).val * 1024 + l.val, h⟩ f := by
    unfold divisor divisorOf
    rw [rootAt_apply, re_apply m c t 1 f l h, im_apply m c t 1 f l h]
    rfl
  have hx : (if p = 0 then reBlk m c t else imBlk m c t) (ix5 0 0 ch f l)
      = argX m c (ix5 (batch t) ch ⟨(grid0.coords t 1).val * 1024 + l.val, h⟩ f p) := by
    match p with
    | ⟨0, _⟩ => exact re_apply m c t ch f l h
    | ⟨1, _⟩ => exact im_apply m c t ch f l h
  unfold normAt normOf
  rw [hd, hx, iblk_6, iblk_7, scale_apply, offset_apply, ← Ideal.ofBits_one_f32]
  rfl

end Cert.KernelIdeal.Hand

end
-- ==== Proof.IdealArrays.lean ====
/-
  The two output arrays after the grid, at the extended reals: every element lies in the block of its batch entry and
  time block, so the arrays end at the normalised input and the smoothed root everywhere.
-/
module

public import proofs.«01_k».proof.Proof.IdealState

@[expose] public section

set_option maxRecDepth 16384

noncomputable section

namespace Cert.KernelIdeal.Hand

open Cert.KernelIdeal Cert.KernelIdeal.Gen Cert.Smooth
open Idealize.ShloMosaic hiding ix1 ix2 ix3 ix4 ix5 eq_ix1 eq_ix2 eq_ix3 eq_ix4 eq_ix5
open Idealize.ShloMosaic.TcCoe Idealize.ShloMosaic.ValueIdx

variable (m : (ℓ : Loc nD τ sig) → Buf (Elt Ideal) ℓ) (c : Dev nD)

attribute [local irreducible] resAt smoothAt normOf state

/-- The normalised input and the smoothed root, laid out as the region writes them. -/
def resT : FVec Ideal S2x16x2x257x2000 .f32 := fun j => normOf (argX m c) (argS m c) (argW m c) (argB m c) (argA m c) (j 1) (j 2) (j 4) (j 3) (j 0)
def smoothT : FVec Ideal S16x257x2000 .f32 := fun j => Ideal.sqrt (state (argX m c) (argS m c) (argA m c) (j 0) (j 1) ((j 2 : Fin 2000).val + 1))

theorem index_8 : ∀ t : Fin cfg0.N, win0_8.index t 0 = 0 ∧ win0_8.index t 1 = (grid0.coords t 0).val ∧ win0_8.index t 2 = 0
    ∧ win0_8.index t 3 = 0 ∧ win0_8.index t 4 = (grid0.coords t 1).val := by decide +kernel
theorem index_9 : ∀ t : Fin cfg0.N, win0_9.index t 0 = (grid0.coords t 0).val ∧ win0_9.index t 1 = 0
    ∧ win0_9.index t 2 = (grid0.coords t 1).val := by decide +kernel

/-- The grid point of a batch entry and time block. -/
theorem point_of : ∀ (b : Fin 16) (k : Fin 2), ∃ t : Fin cfg0.N, (grid0.coords t 0).val = b.val ∧ (grid0.coords t 1).val = k.val := by decide +kernel

set_option maxHeartbeats 2000000 in
/-- The part of the normalised block a write-back moves. -/
theorem flushed_8 (t : Fin cfg0.N) : (dats m 0 c).flushed (8 : Fin 10) t = (win0_8.blk t).view.read (Elt Ideal) (resT m c) := by
  change win0_8.cut (grid0.coords t) (resAt m c t) = _
  funext j
  obtain ⟨x0, x1, x2, x3, x4⟩ := xsize_res t
  obtain ⟨h0, h1, h2, h3, h4⟩ := index_8 t
  have j1 : (j 1).val < 1 := lt_of_lt_of_eq (j 1).isLt x1
  have hj : (grid0.coords t 1).val * 1024 + (j 4).val < 2000 := by
    have := lt_of_lt_of_eq (j 4).isLt x4
    omega
  rw [View.read_apply]
  show resAt m c t (win0_8.xinj (grid0.coords t) j) = resT m c _
  have e : win0_8.xinj (grid0.coords t) j = ix5 ⟨(j 0).val, lt_of_lt_of_eq (j 0).isLt x0⟩ 0 ⟨(j 2).val, lt_of_lt_of_eq (j 2).isLt x2⟩
      ⟨(j 3).val, lt_of_lt_of_eq (j 3).isLt x3⟩ ⟨(j 4).val, lt_of_lt_of_le (lt_of_lt_of_eq (j 4).isLt x4) (min_le_left _ _)⟩ := by
    funext a
    apply Fin.ext
    match a with
    | ⟨0, _⟩ => rfl
    | ⟨1, _⟩ => show (j 1).val = 0; omega
    | ⟨2, _⟩ => rfl
    | ⟨3, _⟩ => rfl
    | ⟨4, _⟩ => rfl
  rw [e, resAt_apply m c t _ _ _ _ hj]
  refine Eq.trans (b := resT m c (ix5 ⟨(j 0).val, lt_of_lt_of_eq (j 0).isLt x0⟩ (batch t) ⟨(j 2).val, lt_of_lt_of_eq (j 2).isLt x2⟩
    ⟨(j 3).val, lt_of_lt_of_eq (j 3).isLt x3⟩ ⟨(grid0.coords t 1).val * 1024 + (j 4).val, hj⟩)) ?_ (congrArg (resT m c) ?_)
  · unfold resT; rfl
  funext a
  apply Fin.ext
  match a with
  | ⟨0, _⟩ => show (j 0).val = win0_8.index t 0 * 2 + 1 * (j 0).val; omega
  | ⟨1, _⟩ => show (grid0.coords t 0).val = win0_8.index t 1 * 1 + 1 * (j 1).val; omega
  | ⟨2, _⟩ => show (j 2).val = win0_8.index t 2 * 2 + 1 * (j 2).val; omega
  | ⟨3, _⟩ => show (j 3).val = win0_8.index t 3 * 257 + 1 * (j 3).val; omega
  | ⟨4, _⟩ => show (grid0.coords t 1).val * 1024 + (j 4).val = win0_8.index t 4 * 1024 + 1 * (j 4).val; omega

/-- The part of the smoothed block a write-back moves. -/
theorem flushed_9 (t : Fin cfg0.N) : (dats m 0 c).flushed (9 : Fin 10) t = (win0_9.blk t).view.read (Elt Ideal) (smoothT m c) := by
  change win0_9.cut (grid0.coords t) (smoothAt m c t) = _
  funext j
  obtain ⟨x0, x1, x2⟩ := xsize_smooth t
  obtain ⟨h0, h1, h2⟩ := index_9 t
  have j0 : (j 0).val < 1 := lt_of_lt_of_eq (j 0).isLt x0
  rw [View.read_apply]
  show smoothAt m c t (win0_9.xinj (grid0.coords t) j) = smoothT m c _
  have e : win0_9.xinj (grid0.coords t) j = ix3 0 ⟨(j 1).val, lt_of_lt_of_eq (j 1).isLt x1⟩
      ⟨(j 2).val, lt_of_lt_of_le (lt_of_lt_of_eq (j 2).isLt x2) (min_le_left _ _)⟩ := by
    funext a
    apply Fin.ext
    match a with
    | ⟨0, _⟩ => show (j 0).val = 0; omega
    | ⟨1, _⟩ => rfl
    | ⟨2, _⟩ => rfl
  have hj : (grid0.coords t 1).val * 1024 + (j 2).val < 2000 := by
    have := lt_of_lt_of_eq (j 2).isLt x2
    omega
  rw [e, smoothAt_apply m c t]
  refine Eq.trans (b := smoothT m c (ix3 (batch t) ⟨(j 1).val, lt_of_lt_of_eq (j 1).isLt x1⟩
    ⟨(grid0.coords t 1).val * 1024 + (j 2).val, hj⟩)) ?_ (congrArg (smoothT m c) ?_)
  · unfold smoothT; rfl
  funext a
  apply Fin.ext
  match a with
  | ⟨0, _⟩ => show (grid0.coords t 0).val = win0_9.index t 0 * 1 + 1 * (j 0).val; omega
  | ⟨1, _⟩ => show (j 1).val = win0_9.index t 1 * 257 + 1 * (j 1).val; omega
  | ⟨2, _⟩ => show (grid0.coords t 1).val * 1024 + (j 2).val = win0_9.index t 2 * 1024 + 1 * (j 2).val; omega

/-- The normalised array after the grid. -/
theorem final_8 : (dats m 0 c).arrAt (8 : Fin 10) cfg0.N = resT m c := by
  refine (dats m 0 c).arrAt_eq_of_cover (8 : Fin 10) (resT m c) (fun t _ => flushed_8 m c t) fun i => ?_
  change S2x16x2x257x2000.Idx at i
  have i4 : (i 4).val < 2000 := (i 4).isLt
  obtain ⟨t, hb, hk⟩ := point_of (i 1) ⟨(i 4).val / 1024, by omega⟩
  refine ⟨t, flush0_8 t, ?_⟩
  show i ∈ ((View.whole main_v118_0).slice (win0_8.rect t)).set
  rw [View.set_slice_whole, Rect.mem_set_unit]
  obtain ⟨x0, x1, x2, x3, x4⟩ := xsize_res t
  obtain ⟨h0, h1, h2, h3, h4⟩ := index_8 t
  have i0 : (i 0).val < 2 := (i 0).isLt
  have i2 : (i 2).val < 2 := (i 2).isLt
  have i3 : (i 3).val < 257 := (i 3).isLt
  intro a
  match a with
  | ⟨0, _⟩ => show win0_8.index t 0 * 2 ≤ (i 0).val ∧ (i 0).val < win0_8.index t 0 * 2 + win0_8.xsize (grid0.coords t) 0; omega
  | ⟨1, _⟩ => show win0_8.index t 1 * 1 ≤ (i 1).val ∧ (i 1).val < win0_8.index t 1 * 1 + win0_8.xsize (grid0.coords t) 1; omega
  | ⟨2, _⟩ => show win0_8.index t 2 * 2 ≤ (i 2).val ∧ (i 2).val < win0_8.index t 2 * 2 + win0_8.xsize (grid0.coords t) 2; omega
  | ⟨3, _⟩ => show win0_8.index t 3 * 257 ≤ (i 3).val ∧ (i 3).val < win0_8.index t 3 * 257 + win0_8.xsize (grid0.coords t) 3; omega
  | ⟨4, _⟩ =>
    show win0_8.index t 4 * 1024 ≤ (i 4).val ∧ (i 4).val < win0_8.index t 4 * 1024 + win0_8.xsize (grid0.coords t) 4
    simp only at hk
    omega

/-- The smoothed array after the grid. -/
theorem final_9 : (dats m 0 c).arrAt (9 : Fin 10) cfg0.N = smoothT m c := by
  refine (dats m 0 c).arrAt_eq_of_cover (9 : Fin 10) (smoothT m c) (fun t _ => flushed_9 m c t) fun i => ?_
  change S16x257x2000.Idx at i
  have i2 : (i 2).val < 2000 := (i 2).isLt
  obtain ⟨t, hb, hk⟩ := point_of (i 0) ⟨(i 2).val / 1024, by omega⟩
  refine ⟨t, flush0_9 t, ?_⟩
  show i ∈ ((View.whole main_v118_1).slice (win0_9.rect t)).set
  rw [View.set_slice_whole, Rect.mem_set_unit]
  obtain ⟨x0, x1, x2⟩ := xsize_smooth t
  obtain ⟨h0, h1, h2⟩ := index_9 t
  have i1 : (i 1).val < 257 := (i 1).isLt
  intro a
  match a with
  | ⟨0, _⟩ => show win0_9.index t 0 * 1 ≤ (i 0).val ∧ (i 0).val < win0_9.index t 0 * 1 + win0_9.xsize (grid0.coords t) 0; omega
  | ⟨1, _⟩ => show win0_9.index t 1 * 257 ≤ (i 1).val ∧ (i 1).val < win0_9.index t 1 * 257 + win0_9.xsize (grid0.coords t) 1; omega
  | ⟨2, _⟩ =>
    show win0_9.index t 2 * 1024 ≤ (i 2).val ∧ (i 2).val < win0_9.index t 2 * 1024 + win0_9.xsize (grid0.coords t) 2
    simp only at hk
    omega

end Cert.KernelIdeal.Hand

end
-- ==== Proof.Indices.lean ====
/-
  Every index of a result array by its coordinates, the unit axes at 0.
-/
module

public import proofs.«01_k».proof.Proof.Spec

@[expose] public section

namespace Cert.Smooth

open Idealize.ShloMosaic
open Idealize.ShloMosaic.ValueIdx

theorem input_index (j : (⟨5, ![16, 2, 2000, 257, 2]⟩ : Shape).Idx) :
    ∃ (b : Fin 16) (ch : Fin 2) (n : Fin 2000) (f : Fin 257) (p : Fin 2), j = ix5 b ch n f p := by
  refine ⟨j 0, j 1, j 2, j 3, j 4, funext fun a => ?_⟩
  fin_cases a <;> rfl

theorem smooth_index (j : (⟨5, ![16, 1, 2000, 257, 1]⟩ : Shape).Idx) :
    ∃ (b : Fin 16) (n : Fin 2000) (f : Fin 257), j = ix5 b 0 n f 0 := by
  refine ⟨j 0, j 2, j 3, funext fun a => Fin.ext ?_⟩
  have h1 : (j 1).val < 1 := (j 1).isLt
  have h4 : (j 4).val < 1 := (j 4).isLt
  match a with
  | ⟨0, _⟩ => rfl
  | ⟨1, _⟩ => show (j 1).val = 0; omega
  | ⟨2, _⟩ => rfl
  | ⟨3, _⟩ => rfl
  | ⟨4, _⟩ => show (j 4).val = 0; omega

theorem state_index (j : (⟨4, ![16, 1, 257, 1]⟩ : Shape).Idx) : ∃ (b : Fin 16) (f : Fin 257), j = ix4 b 0 f 0 := by
  refine ⟨j 0, j 2, funext fun a => Fin.ext ?_⟩
  have h1 : (j 1).val < 1 := (j 1).isLt
  have h3 : (j 3).val < 1 := (j 3).isLt
  match a with
  | ⟨0, _⟩ => rfl
  | ⟨1, _⟩ => show (j 1).val = 0; omega
  | ⟨2, _⟩ => rfl
  | ⟨3, _⟩ => show (j 3).val = 0; omega

end Cert.Smooth
-- ==== Proof.IdealResults.lean ====
/-
  The kernel's three results: the host operations after the grid re-lay the two output arrays and square the last root.
-/
module

public import proofs.«01_k».proof.Proof.IdealArrays
public import proofs.«01_k».proof.Proof.Indices
public import Idealize.ShloMosaic.Lib.StableHlo.RunRead

@[expose] public section

set_option maxRecDepth 16384

noncomputable section

namespace Cert.KernelIdeal.Hand

open Cert.KernelIdeal Cert.KernelIdeal.Gen Cert.Smooth
open Idealize.ShloMosaic hiding ix1 ix2 ix3 ix4 ix5 eq_ix1 eq_ix2 eq_ix3 eq_ix4 eq_ix5
open Idealize.ShloMosaic.TcCoe Idealize.ShloMosaic.ValueIdx
open Idealize.ShloMosaic.StableHlo
open Idealize.SL.Sem

variable (m : (ℓ : Loc nD τ sig) → Buf (Elt Ideal) ℓ) (ρ : Dev nD → PrngReg) (c : Dev nD)

attribute [local irreducible] normOf state resT smoothT

/-- The buffers after the grid, before the last host operations. -/
def exitVal : Valuation τ sig (Elt Ideal) :=
  Pipeline.withArrays (cfgs 0).spec c (V0 m c) fun w => (dats m 0 c).arrAt w (cfgs 0).N

theorem exit_res : exitVal m c (Proc.devRef .tc main_v118_0) = resT m c :=
  ((dats m 0 c).withArrays_arrAt launch₀0.sharedIn (V0 m c) (A_eq m c) (8 : Fin 10)).trans (final_8 m c)
theorem exit_smooth : exitVal m c (Proc.devRef .tc main_v118_1) = smoothT m c :=
  ((dats m 0 c).withArrays_arrAt launch₀0.sharedIn (V0 m c) (A_eq m c) (9 : Fin 10)).trans (final_9 m c)

theorem tail_res (V : Valuation τ sig (Elt Ideal)) : after (List.flatten [hostOps1]) V (Proc.devRef .tc main_v119)
    = transpose S16x2x2000x257x2 [1, 2, 4, 3, 0] (V (Proc.devRef .tc main_v118_0)) transposes_S2x16x2x257x2000_S16x2x2000x257x2_1_2_4_3_0 := by
  simp only [List.flatten_cons, List.flatten_nil, List.append_nil]
  after_reads_simp
theorem tail_smooth (V : Valuation τ sig (Elt Ideal)) : after (List.flatten [hostOps1]) V (Proc.devRef .tc main_v121)
    = shapeCast S16x1x2000x257x1 (transpose S16x2000x257 [0, 2, 1] (V (Proc.devRef .tc main_v118_1)) transposes_S16x257x2000_S16x2000x257_0_2_1)
        shapeCasts_S16x2000x257_S16x1x2000x257x1 := by
  simp only [List.flatten_cons, List.flatten_nil, List.append_nil]
  after_reads_simp
  rfl
/-- The smoothed root's last column. -/
def lastRoot (u : FVec Ideal S16x257x2000 .f32) : FVec Ideal S16x257 .f32 :=
  shapeCast S16x257 (extractStridedSlice S16x257x1 ![0, 0, 1999] u slices_S16x257x2000_S16x257x1_0_0_1999) shapeCasts_S16x257x1_S16x257
theorem tail_last (V : Valuation τ sig (Elt Ideal)) : after (List.flatten [hostOps1]) V (Proc.devRef .tc main_v125)
    = shapeCast S16x1x257x1 (mulf (lastRoot (V (Proc.devRef .tc main_v118_1))) (lastRoot (V (Proc.devRef .tc main_v118_1))))
        shapeCasts_S16x257_S16x1x257x1 := by
  simp only [List.flatten_cons, List.flatten_nil, List.append_nil]
  after_reads_simp
  rfl

/-- The first result: the normalised input. -/
theorem res_apply : Pipeline.afterTail₀ cfgs (dats m) 0 (V0 m) [hostOps1] c main_v119
    = resArr (argX m c) (argS m c) (argW m c) (argB m c) (argA m c) := by
  refine (tail_res (exitVal m c)).trans ?_
  rw [exit_res]
  funext j
  obtain ⟨b, ch, n, f, p, rfl⟩ := input_index j
  refine (transpose_apply _ _ _ _ (ix5 p b ch f n) fun a => ?_).trans ?_
  · fin_cases a <;> rfl
  · unfold resT; rfl

/-- The third result: the smoothed root. -/
theorem smooth_apply : Pipeline.afterTail₀ cfgs (dats m) 0 (V0 m) [hostOps1] c main_v121
    = smoothArr (argX m c) (argS m c) (argA m c) := by
  refine (tail_smooth (exitVal m c)).trans ?_
  rw [exit_smooth]
  funext j
  obtain ⟨b, n, f, rfl⟩ := smooth_index j
  refine (shapeCast_apply _ _ _ (ix3 b n f) ?_).trans ?_
  · rw [Shape.rowMajor_val_three, Shape.rowMajor_val_five]
    simp
  refine (transpose_apply _ _ _ _ (ix3 b f n) fun a => ?_).trans ?_
  · fin_cases a <;> rfl
  · unfold smoothT; rfl

theorem lastRoot_apply (b : Fin 16) (f : Fin 257) :
    lastRoot (smoothT m c) (ix2 b f) = Ideal.sqrt (state (argX m c) (argS m c) (argA m c) b f 2000) := by
  unfold lastRoot
  refine (shapeCast_apply _ _ _ (ix3 b f 0) ?_).trans ?_
  · rw [Shape.rowMajor_val_three, Shape.rowMajor_val_two]
    simp
  rw [extractStridedSlice_apply _ _ _ _ (ix3 b f ⟨1999, by omega⟩) (fun a => by fin_cases a <;> simp)]
  unfold smoothT; rfl

/-- The second result: the last smoothed power, where the initial state is nonnegative. -/
theorem last_apply (hS : ∀ j, (0 : EReal) ≤ argS m c j) : Pipeline.afterTail₀ cfgs (dats m) 0 (V0 m) [hostOps1] c main_v125
    = lastArr (argX m c) (argS m c) (argA m c) := by
  refine (tail_last (exitVal m c)).trans ?_
  rw [exit_smooth]
  funext j
  obtain ⟨b, f, rfl⟩ := state_index j
  refine (shapeCast_apply _ _ _ (ix2 b f) ?_).trans ?_
  · rw [Shape.rowMajor_val_two, Shape.rowMajor_val_four]
    simp
  show lastRoot (smoothT m c) (ix2 b f) * lastRoot (smoothT m c) (ix2 b f) = _
  rw [lastRoot_apply, sqrt_mul_self _ (state_nonneg _ _ _ _ _ (hS _) _)]
  rfl

/-- The run: the three results as specified, the arguments as they were. -/
theorem value_run (hS : ∀ (c : Dev nD) (j : S16x1x257x1.Idx), (0 : EReal) ≤ argS m c j) :
    θ_run defs (onTc (τ := τ) (main (F := Ideal))) ⟨m, fun _ => 0, ρ⟩ (fun r => ∀ c : Dev nD,
      r.2.mem ((c.tc : Thread nD τ).loc main_v119) = resArr (argX m c) (argS m c) (argW m c) (argB m c) (argA m c)
      ∧ r.2.mem ((c.tc : Thread nD τ).loc main_v125) = lastArr (argX m c) (argS m c) (argA m c)
      ∧ r.2.mem ((c.tc : Thread nD τ).loc main_v121) = smoothArr (argX m c) (argS m c) (argA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).2 main_v119 (Pipeline.mem_restRefs_of main_v119 (by decide) (by decide))).trans (res_apply m c),
        ((h.1 c).2 main_v125 (Pipeline.mem_restRefs_of main_v125 (by decide) (by decide))).trans (last_apply m c (hS c)),
        ((h.1 c).2 main_v121 (Pipeline.mem_restRefs_of main_v121 (by decide) (by decide))).trans (smooth_apply m c),
        ((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c),
        ((h.1 c).2 main_arg2 (Pipeline.mem_restRefs_of main_arg2 (by decide) (by decide))).trans (W_main_arg2 m (dats m) c),
        ((h.1 c).2 main_arg3 (Pipeline.mem_restRefs_of main_arg3 (by decide) (by decide))).trans (W_main_arg3 m (dats m) c),
        ((h.1 c).2 main_arg4 (Pipeline.mem_restRefs_of main_arg4 (by decide) (by decide))).trans (W_main_arg4 m (dats m) c)⟩)
    (run_main m ρ)

end Cert.KernelIdeal.Hand

end
-- ==== Proof.RefFrame.lean ====
module

public import proofs.«01_k».proof.Proof.Gen.ReferenceIdeal.Run
public import Idealize.ShloMosaic.Lib.Quiescent
public import Idealize.ShloMosaic.Lib.StableHlo.RunHlo

/-! # The reference leaves its arguments alone

No operation before, in or after the scan writes an argument array, and the program has no semaphore. -/

@[expose] public section

noncomputable section

namespace Cert.ReferenceIdeal.Hand

open Cert.ReferenceIdeal Cert.ReferenceIdeal.Gen Cert.ReferenceIdeal.Value
open Idealize.ShloMosaic Idealize.ShloMosaic.TcCoe
open Idealize.SL.Sem
open Idealize.ShloMosaic.StableHlo

variable {F : FTy → Type} [FloatOps F]

/-- What the stretch after the scan writes. -/
abbrev lastWrites : List (Ref sig .tc) :=
  [main_v13, main_v14, main_v15, main_v16, main_v17, main_cst_3, main_v18, main_v19, main_v20, main_v21, main_v22, main_v23,
    main_v24, main_v25]

theorem last_writes : (hostOps0_1 : List (HloOp τ sig (Elt F))).Forall
    fun op => op.writes ⊆ (lastWrites.map (Proc.devRef (τ := τ) .tc)).toFinset :=
  StableHlo.forall_writes_sub_of_map rfl

/-- Everything one trip of the scan writes. -/
abbrev tripWrites : List (Ref sig .tc) :=
  condOps_W ++ while0Ops0_W ++ while0Ops0_1_W ++ while0Ops0_2_W ++ while0Ops0_3_W

variable (m : (ℓ : Loc nD τ sig) → Buf (Elt F) ℓ) (ρ : Dev nD → PrngReg)

/-- A buffer no operation of the loop writes is, after any number of trips, as the loop was entered. -/
theorem trips_keep (r : Ref sig .tc) (h : r ∉ tripWrites) (c : Dev nD) : ∀ k,
    atK m k c (Proc.devRef .tc r) = entryContents preI m c (Proc.devRef .tc r)
  | 0 => rfl
  | k + 1 => by
    simp only [tripWrites, List.mem_append, not_or] at h
    rw [show atK m (k + 1) c = afterL bodyI (after condOps (atK m k c)) from rfl]
    simp only [afterL_cons, afterL_nil]
    rw [after_of_writes_sub _ _ while0Ops0_3_writes h.2, after_of_writes_sub _ _ while0Ops0_2_writes h.1.2,
      after_of_writes_sub _ _ while0Ops0_1_writes h.1.1.2, after_of_writes_sub _ _ while0Ops0_writes h.1.1.1.2,
      after_of_writes_sub _ _ condOps_writes h.1.1.1.1]
    exact trips_keep r (by simp only [tripWrites, List.mem_append, not_or]; exact h) c k

/-- A buffer neither the loop nor the last stretch writes ends as the loop was entered. -/
theorem final_keep (r : Ref sig .tc) (h : r ∉ tripWrites) (h' : r ∉ lastWrites) (c : Dev nD) :
    finalContents condOps preI bodyI postI 2000 m c (Proc.devRef .tc r) = entryContents preI m c (Proc.devRef .tc r) := by
  have hc : r ∉ condOps_W := by
    simp only [tripWrites, List.mem_append, not_or] at h; exact h.1.1.1.1
  show after hostOps0_1 (after condOps (atK m 2000 c)) (Proc.devRef .tc r) = _
  rw [after_of_writes_sub _ _ last_writes h', after_of_writes_sub _ _ condOps_writes hc, trips_keep m r h c 2000]

/-- A buffer the first stretch does not write either ends as the run began. -/
theorem final_arg (r : Ref sig .tc) (h : r ∉ tripWrites) (h' : r ∉ lastWrites) (h'' : r ∉ hostOps0_W) (c : Dev nD) :
    finalContents condOps preI bodyI postI 2000 m c (Proc.devRef .tc r) = m ((c.tc : Thread nD τ).loc r) := by
  rw [final_keep m r h h' c]
  exact after_of_writes_sub hostOps0 _ hostOps0_writes h''

/-- The frame with the counters: the argument arrays end as they were, and every semaphore counter at zero. -/
theorem frame_run :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_mono (run_fold m ρ) fun r h => ⟨fun c =>
    ⟨(h c main_arg0 rfl).trans (final_arg m main_arg0 (by decide +kernel) (by decide +kernel) (by decide +kernel) c),
      (h c main_arg1 rfl).trans (final_arg m main_arg1 (by decide +kernel) (by decide +kernel) (by decide +kernel) c),
      (h c main_arg2 rfl).trans (final_arg m main_arg2 (by decide +kernel) (by decide +kernel) (by decide +kernel) c),
      (h c main_arg3 rfl).trans (final_arg m main_arg3 (by decide +kernel) (by decide +kernel) (by decide +kernel) c),
      (h c main_arg4 rfl).trans (final_arg m main_arg4 (by decide +kernel) (by decide +kernel) (by decide +kernel) c)⟩,
    sem_eq_zero_of_no_sems rfl r.2⟩

end Cert.ReferenceIdeal.Hand

end
-- ==== Proof.RefScan.lean ====
/-
  The reference's scan at the extended reals: after `k` trips the carried state is the smoothed power after `k` times,
  and the carried stack holds the smoothed power of every time already passed.
-/
module

public import proofs.«01_k».proof.Proof.RefFrame
public import proofs.«01_k».proof.Proof.Spec
public import Idealize.ShloMosaic.Lib.Pipeline.Value
public import Idealize.ShloMosaic.Lib.Pointwise
public import Idealize.ShloMosaic.Lib.DynamicIndex
public import Idealize.ShloMosaic.Lib.StableHlo.RunRead
public import Idealize.ShloMosaic.Lib.IdealHost
public import Idealize.ShloMosaic.Lib.WordArith.Masks

@[expose] public section

set_option maxRecDepth 16384

noncomputable section

namespace Cert.ReferenceIdeal.Hand

open Cert.ReferenceIdeal Cert.ReferenceIdeal.Gen Cert.ReferenceIdeal.Value Cert.Smooth
open Idealize.ShloMosaic hiding ix1 ix2 ix3 ix4 ix5 eq_ix1 eq_ix2 eq_ix3 eq_ix4 eq_ix5
open Idealize.ShloMosaic.TcCoe Idealize.ShloMosaic.ValueIdx
open Idealize.ShloMosaic.StableHlo
open Idealize.SL.Sem

variable (m : (ℓ : Loc nD τ sig) → Buf (Elt Ideal) ℓ) (c : Dev nD)

/-- The five arguments at one device. -/
abbrev argX : InArr := m ((c : Thread nD τ).loc main_arg0)
abbrev argS : StArr := m ((c : Thread nD τ).loc main_arg1)
abbrev argW : ScArr := m ((c : Thread nD τ).loc main_arg2)
abbrev argB : ScArr := m ((c : Thread nD τ).loc main_arg3)
abbrev argA : PaArr := m ((c : Thread nD τ).loc main_arg4)

/-! ## Entering the scan -/

/-- The squared modulus as an array. -/
def powerArr (X : FVec Ideal S16x2x2000x257x2 .f32) : FVec Ideal S16x2x2000x257x1 .f32 :=
  broadcastInDim S16x2x2000x257x1 ![0, 1, 2, 3] bcast_S16x2x2000x257_S16x2x2000x257x1_0_1_2_3
    (Host.reduceAdd (mulf X X) (constant (F := Ideal) S_ .f32 0x00000000#32) reducesTo_S16x2x2000x257x2_S16x2x2000x257_d4 h_S_)

theorem powerArr_apply (X : FVec Ideal S16x2x2000x257x2 .f32) (b : Fin 16) (ch : Fin 2) (n : Fin 2000) (f : Fin 257) :
    powerArr X (ix5 b ch n f 0) = powerOf X b ch n f := by
  refine (broadcastInDim_apply _ _ _ _ (ix4 b ch n f) fun a => ?_).trans ?_
  · fin_cases a <;> rfl
  rw [Host.reduceAdd_apply, Ideal.hostReduceAdd_def]
  refine (Ideal.hostReduceAdd_r5_a4 _ _ _ _).trans ?_
  rw [Fin.sum_univ_two]
  show Ideal.ofBits .f32 0x00000000#32 + _ = _
  rw [Ideal.ofBits_zero_f32, zero_add]
  rfl

/-- The smoothing weights as an array. -/
def weightArr (A : FVec Ideal S1x1x257x1 .f32) : FVec Ideal S1x1x257x1 .f32 :=
  Host.divf (broadcastInDim S1x1x257x1 ![] bcast_S_S1x1x257x1 (constant S_ .f32 0x3F800000#32))
    (addf (broadcastInDim S1x1x257x1 ![] bcast_S_S1x1x257x1 (constant S_ .f32 0x3F800000#32)) (Host.exp (Host.negf A)))

theorem weightArr_apply (A : FVec Ideal S1x1x257x1 .f32) (f : Fin 257) : weightArr A (ix4 0 0 f 0) = (weightOf A f : EReal) := by
  refine Eq.trans (b := weight (A (ix4 0 0 f 0))) ?_ (weightOf_eq A f)
  show Ideal.div (Ideal.ofBits .f32 0x3F800000#32) (Ideal.ofBits .f32 0x3F800000#32 + Ideal.exp (-A (ix4 0 0 f 0))) = _
  rw [Ideal.ofBits_one_f32]
  rfl

abbrev entry : Valuation τ sig (Elt Ideal) := entryContents preI m c

theorem entry_power : entry m c (Proc.devRef .tc main_v2) = powerArr (argX m c) := by
  show after hostOps0 _ (Proc.devRef .tc main_v2) = _
  after_reads_simp
  rfl
theorem entry_stack : entry m c (Proc.devRef .tc main_v12_0) = transpose S2000x16x1x257x1 [2, 0, 1, 3, 4]
    (extractStridedSlice S16x1x2000x257x1 ![0, 0, 0, 0, 0] (powerArr (argX m c)) slices_S16x2x2000x257x1_S16x1x2000x257x1_0_0_0_0_0)
    transposes_S16x1x2000x257x1_S2000x16x1x257x1_2_0_1_3_4 := by
  show after hostOps0 _ (Proc.devRef .tc main_v12_0) = _
  after_reads_simp
  rfl
theorem entry_weight : entry m c (Proc.devRef .tc main_v12_1) = weightArr (argA m c) := by
  show after hostOps0 _ (Proc.devRef .tc main_v12_1) = _
  after_reads_simp
  rfl
theorem entry_state : entry m c (Proc.devRef .tc main_v12_3) = argS m c := by
  show after hostOps0 _ (Proc.devRef .tc main_v12_3) = _
  after_reads_simp
  rfl

theorem entry_stack_apply (n : Fin 2000) (b : Fin 16) (f : Fin 257) :
    (entry m c (Proc.devRef .tc main_v12_0) : FVec Ideal S2000x16x1x257x1 .f32) (ix5 n b 0 f 0) = powerOf (argX m c) b 0 n f := by
  rw [entry_stack]
  refine (transpose_apply _ _ _ _ (ix5 b 0 n f 0) fun a => ?_).trans ?_
  · fin_cases a <;> rfl
  rw [extractStridedSlice_apply _ _ _ _ (ix5 b 0 n f 0) (fun a => by fin_cases a <;> simp)]
  exact powerArr_apply _ _ _ _ _

/-! ## One trip -/

/-- A stack's entry at a time inside it. -/
theorem slice_apply (x : FVec Ideal S2000x16x1x257x1 .f32) (start : Fin 5 → Int) (n : Fin 2000) (h0 : start 0 = n.val)
    (h1 : start 1 = 0) (h2 : start 2 = 0) (h3 : start 3 = 0) (h4 : start 4 = 0) (b : Fin 16) (f : Fin 257) :
    shapeCast S16x1x257x1 (Host.dynamicSlice S1x16x1x257x1 x start sliceFits_S2000x16x1x257x1_S1x16x1x257x1)
      shapeCasts_S1x16x1x257x1_S16x1x257x1 (ix4 b 0 f 0) = x (ix5 n b 0 f 0) := by
  refine (shapeCast_apply _ _ _ (ix5 0 b 0 f 0) ?_).trans ?_
  · rw [Shape.rowMajor_val_five, Shape.rowMajor_val_four]
    simp
  refine (congrFun (Host.dynamicSlice_eq_extractStridedSlice S1x16x1x257x1 x start ![n.val, 0, 0, 0, 0] _ ⟨rfl, fun a => ?_⟩ fun a => ?_) _).trans ?_
  · have := n.isLt
    match a with
    | ⟨0, _⟩ => show n.val + 1 ≤ 2000; omega
    | ⟨1, _⟩ => show 0 + 16 ≤ 16; omega
    | ⟨2, _⟩ => show 0 + 1 ≤ 1; omega
    | ⟨3, _⟩ => show 0 + 257 ≤ 257; omega
    | ⟨4, _⟩ => show 0 + 1 ≤ 1; omega
  · match a with
    | ⟨0, _⟩ => exact h0
    | ⟨1, _⟩ => exact h1
    | ⟨2, _⟩ => exact h2
    | ⟨3, _⟩ => exact h3
    | ⟨4, _⟩ => exact h4
  refine extractStridedSlice_apply _ _ _ _ (ix5 n b 0 f 0) fun a => ?_
  match a with
  | ⟨0, _⟩ => rfl
  | ⟨1, _⟩ => show b.val = 0 + b.val; omega
  | ⟨2, _⟩ => rfl
  | ⟨3, _⟩ => show f.val = 0 + f.val; omega
  | ⟨4, _⟩ => rfl

/-- A stack after one entry was written: the written entry, the others as before. -/
theorem update_apply (x : FVec Ideal S2000x16x1x257x1 .f32) (u : FVec Ideal S16x1x257x1 .f32) (start : Fin 5 → Int) (n : Fin 2000) (h0 : start 0 = n.val)
    (h1 : start 1 = 0) (h2 : start 2 = 0) (h3 : start 3 = 0) (h4 : start 4 = 0) (k : Fin 2000) (b : Fin 16) (f : Fin 257) :
    Host.dynamicUpdateSlice x (broadcastInDim S1x16x1x257x1 ![1, 2, 3, 4] bcast_S16x1x257x1_S1x16x1x257x1_1_2_3_4 u) start
      updateFits_S2000x16x1x257x1_S1x16x1x257x1 (ix5 k b 0 f 0) = if k = n then u (ix4 b 0 f 0) else x (ix5 k b 0 f 0) := by
  have hn := n.isLt
  have hfit : S2000x16x1x257x1.Slices (![n.val, 0, 0, 0, 0] : Fin 5 → ℕ) S1x16x1x257x1 := ⟨rfl, fun a => by
    match a with
    | ⟨0, _⟩ => show n.val + 1 ≤ 2000; omega
    | ⟨1, _⟩ => show 0 + 16 ≤ 16; omega
    | ⟨2, _⟩ => show 0 + 1 ≤ 1; omega
    | ⟨3, _⟩ => show 0 + 257 ≤ 257; omega
    | ⟨4, _⟩ => show 0 + 1 ≤ 1; omega⟩
  refine (congrFun (Host.dynamicUpdateSlice_eq_updateSlice x _ start _ ![n.val, 0, 0, 0, 0] (fun a => ?_) hfit) _).trans ?_
  · match a with
    | ⟨0, _⟩ => show (min (max (start 0) 0) ((2000 - 1 : ℕ) : Int)).toNat = n.val; omega
    | ⟨1, _⟩ => show (min (max (start 1) 0) ((16 - 16 : ℕ) : Int)).toNat = 0; omega
    | ⟨2, _⟩ => show (min (max (start 2) 0) ((1 - 1 : ℕ) : Int)).toNat = 0; omega
    | ⟨3, _⟩ => show (min (max (start 3) 0) ((257 - 257 : ℕ) : Int)).toNat = 0; omega
    | ⟨4, _⟩ => show (min (max (start 4) 0) ((1 - 1 : ℕ) : Int)).toNat = 0; omega
  unfold updateSlice
  by_cases hk : k = n
  · subst hk
    rw [if_pos rfl]
    refine (dif_pos fun a => ?_).trans ?_
    · match a with
      | ⟨0, _⟩ => show k.val ≤ k.val ∧ k.val < k.val + 1; omega
      | ⟨1, _⟩ => show 0 ≤ b.val ∧ b.val < 0 + 16; omega
      | ⟨2, _⟩ => show 0 ≤ 0 ∧ 0 < 0 + 1; omega
      | ⟨3, _⟩ => show 0 ≤ f.val ∧ f.val < 0 + 257; omega
      | ⟨4, _⟩ => show 0 ≤ 0 ∧ 0 < 0 + 1; omega
    refine broadcastInDim_apply _ _ _ _ (ix4 b 0 f 0) fun a => ?_
    match a with
    | ⟨0, _⟩ => rfl
    | ⟨1, _⟩ => rfl
    | ⟨2, _⟩ => rfl
    | ⟨3, _⟩ => rfl
  · rw [if_neg hk]
    refine dif_neg fun h => hk (Fin.ext ?_)
    have h : n.val ≤ k.val ∧ k.val < n.val + 1 := h 0
    omega

theorem iv_int (k : ℕ) (hk : k < 2000) : (Scf.iv 0#32 1#32 k).toInt = k := by
  have h := WordArith.toNat_iv_zero_one k (by omega)
  rw [BitVec.toInt_eq_toNat_of_lt (by omega), h]

/-- The new state of a trip. -/
theorem next_apply (V : Valuation τ sig (Elt Ideal)) (n : Fin 2000) (hc : V (Proc.devRef .tc main_v12_2) = fun _ => Scf.iv 0#32 1#32 n.val)
    (hx : V (Proc.devRef .tc main_v12_0) = entry m c (Proc.devRef .tc main_v12_0))
    (ha : V (Proc.devRef .tc main_v12_1) = entry m c (Proc.devRef .tc main_v12_1)) (b : Fin 16) (f : Fin 257)
    (hs : (V (Proc.devRef .tc main_v12_3) : FVec Ideal S16x1x257x1 .f32) (ix4 b 0 f 0) = state (argX m c) (argS m c) (argA m c) b f n.val) :
    (res_main_while0b_v33 V : FVec Ideal S16x1x257x1 .f32) (ix4 b 0 f 0) = state (argX m c) (argS m c) (argA m c) b f (n.val + 1) := by
  have e := slice_apply (V (Proc.devRef .tc main_v12_0)) (fun k => (((![V (Proc.devRef .tc main_v12_2), constantI S_ 32 0#32, constantI S_ 32 0#32, constantI S_ 32 0#32, constantI S_ 32 0#32] : Fin 5 → (⟨S_, .i32⟩ : BufTy).Contents (Elt Ideal))) k (Shape.Idx.first h_S_)).toInt)
    n (by rw [hc]; exact iv_int n.val n.isLt) rfl rfl rfl rfl b f
  have ex : (V (Proc.devRef .tc main_v12_0) : FVec Ideal S2000x16x1x257x1 .f32) (ix5 n b 0 f 0) = powerOf (argX m c) b 0 n f := by
    rw [hx]; exact entry_stack_apply m c n b f
  have ea : (V (Proc.devRef .tc main_v12_1) : FVec Ideal S1x1x257x1 .f32) (ix4 0 0 f 0) = (weightOf (argA m c) f : EReal) := by
    rw [ha, entry_weight]; exact weightArr_apply _ f
  have es : state (argX m c) (argS m c) (argA m c) b f (n.val + 1) = state (argX m c) (argS m c) (argA m c) b f n.val
      * ((1 - weightOf (argA m c) f : ℝ) : EReal) + powerOf (argX m c) b 0 n f * (weightOf (argA m c) f : EReal) := by
    show _ * _ + sample (argX m c) (argA m c) b f n.val = _
    unfold sample
    rw [dif_pos n.isLt]
    rfl
  rw [es, ← hs, ← ex, ← e, ← one_sub_real, ← ea, ← Ideal.ofBits_one_f32]
  unfold res_main_while0b_v33
  refine congrArg₂ (fun x y : EReal => x + y) (congrArg₂ (fun x y : EReal => x * y) rfl ?_) (congrArg₂ (fun x y : EReal => x * y) rfl ?_)
  · refine (broadcastInDim_apply _ _ _ _ (ix4 0 0 f 0) fun a => ?_).trans rfl
    fin_cases a <;> rfl
  · refine (broadcastInDim_apply _ _ _ _ (ix4 0 0 f 0) fun a => ?_).trans rfl
    fin_cases a <;> rfl

/-! ## All trips -/

/-- Before a trip's body the carried buffers are as the test found them; after the body, as the trip leaves them. -/
theorem test_keep (k : ℕ) (r : Ref sig .tc) (h : r ∈ carriedRefs) :
    after condOps (atK m k c) (Proc.devRef .tc r) = atK m k c (Proc.devRef .tc r) := cond_keeps (atK m k c) r h

theorem scan_apply (k : ℕ) (hk : k ≤ 2000) (b : Fin 16) (f : Fin 257) :
    (atK m k c (Proc.devRef .tc main_v12_3) : FVec Ideal S16x1x257x1 .f32) (ix4 b 0 f 0) = state (argX m c) (argS m c) (argA m c) b f k
    ∧ ∀ n : Fin 2000, n.val < k → (atK m k c (Proc.devRef .tc main_v12_4) : FVec Ideal S2000x16x1x257x1 .f32) (ix5 n b 0 f 0)
        = state (argX m c) (argS m c) (argA m c) b f (n.val + 1) := by
  induction k with
  | zero =>
    refine ⟨?_, fun n hn => absurd hn (Nat.not_lt_zero _)⟩
    exact congrFun (entry_state m c) (ix4 b 0 f 0)
  | succ k ih =>
    obtain ⟨h3, h4⟩ := ih (by omega)
    have hc := (test_keep m c k main_v12_2 (by decide)).trans (atK_ctr m c k)
    have hx := (test_keep m c k main_v12_0 (by decide)).trans (trips_keep m main_v12_0 (by decide +kernel) c k)
    have ha := (test_keep m c k main_v12_1 (by decide)).trans (trips_keep m main_v12_1 (by decide +kernel) c k)
    have hn := next_apply m c (after condOps (atK m k c)) ⟨k, by omega⟩ hc hx ha b f
      ((congrFun (test_keep m c k main_v12_3 (by decide)) (ix4 b 0 f 0)).trans h3)
    refine ⟨(congrFun (trip_main_v12_3 (after condOps (atK m k c))) (ix4 b 0 f 0)).trans hn, fun n hlt => ?_⟩
    refine (congrFun (trip_main_v12_4 (after condOps (atK m k c))) (ix5 n b 0 f 0)).trans ?_
    refine (update_apply _ _ _ ⟨k, by omega⟩ (by rw [hc]; exact iv_int k (by omega)) rfl rfl rfl rfl n b f).trans ?_
    split
    · next he => rw [he]; exact hn
    · next he =>
      refine (congrFun (test_keep m c k main_v12_4 (by decide)) (ix5 n b 0 f 0)).trans (h4 n ?_)
      have : n.val ≠ k := fun h => he (Fin.ext h)
      omega

end Cert.ReferenceIdeal.Hand

end
-- ==== Proof.RefResults.lean ====
/-
  The reference's three results: the state after the last trip, the root of the stack of states, and the input divided
  by the root (channel 0) or its own modulus (channel 1), scaled and shifted.
-/
module

public import proofs.«01_k».proof.Proof.RefScan
public import proofs.«01_k».proof.Proof.Indices

@[expose] public section

set_option maxRecDepth 16384

noncomputable section

namespace Cert.ReferenceIdeal.Hand

open Cert.ReferenceIdeal Cert.ReferenceIdeal.Gen Cert.ReferenceIdeal.Value Cert.Smooth
open Idealize.ShloMosaic hiding ix1 ix2 ix3 ix4 ix5 eq_ix1 eq_ix2 eq_ix3 eq_ix4 eq_ix5
open Idealize.ShloMosaic.TcCoe Idealize.ShloMosaic.ValueIdx
open Idealize.ShloMosaic.StableHlo
open Idealize.SL.Sem

variable (m : (ℓ : Loc nD τ sig) → Buf (Elt Ideal) ℓ) (ρ : Dev nD → PrngReg) (c : Dev nD)

attribute [local irreducible] state

/-- The buffers when the scan is left. -/
def left : Valuation τ sig (Elt Ideal) := after condOps (atK m 2000 c)
theorem left_eq : left m c = after condOps (atK m 2000 c) := rfl
attribute [local irreducible] left

/-- The root of the stack of states. -/
def rootArr (x : FVec Ideal S2000x16x1x257x1 .f32) : FVec Ideal S16x1x2000x257x1 .f32 :=
  Host.sqrt (transpose S16x1x2000x257x1 [1, 2, 0, 3, 4] x transposes_S2000x16x1x257x1_S16x1x2000x257x1_1_2_0_3_4)
/-- What the input is divided by. -/
def divArr (x : FVec Ideal S2000x16x1x257x1 .f32) (p : FVec Ideal S16x2x2000x257x1 .f32) : FVec Ideal S16x2x2000x257x1 .f32 :=
  concatenate S16x2x2000x257x1 1 [⟨S16x1x2000x257x1, rootArr x⟩, ⟨S16x1x2000x257x1, Host.sqrt
    (extractStridedSlice S16x1x2000x257x1 ![0, 1, 0, 0, 0] p slices_S16x2x2000x257x1_S16x1x2000x257x1_0_1_0_0_0)⟩]
    concatenates_S16x1x2000x257x1_S16x1x2000x257x1_S16x2x2000x257x1_d1
/-- The normalised input. -/
def normArr (X : FVec Ideal S16x2x2000x257x2 .f32) (W B : FVec Ideal S1x2x1x257x1 .f32) (x : FVec Ideal S2000x16x1x257x1 .f32)
    (p : FVec Ideal S16x2x2000x257x1 .f32) : FVec Ideal S16x2x2000x257x2 .f32 :=
  addf (mulf (Host.divf X (broadcastInDim S16x2x2000x257x2 ![0, 1, 2, 3, 4] bcast_S16x2x2000x257x1_S16x2x2000x257x2_0_1_2_3_4
      (addf (divArr x p) (broadcastInDim S16x2x2000x257x1 ![] bcast_S_S16x2x2000x257x1 (constant S_ .f32 0x322BCC77#32)))))
    (broadcastInDim S16x2x2000x257x2 ![0, 1, 2, 3, 4] bcast_S1x2x1x257x1_S16x2x2000x257x2_0_1_2_3_4 W))
    (broadcastInDim S16x2x2000x257x2 ![0, 1, 2, 3, 4] bcast_S1x2x1x257x1_S16x2x2000x257x2_0_1_2_3_4 B)

theorem post_root (V : Valuation τ sig (Elt Ideal)) : after hostOps0_1 V (Proc.devRef .tc main_v14) = rootArr (V (Proc.devRef .tc main_v12_4)) := by
  after_reads_simp
  rfl
theorem post_norm (V : Valuation τ sig (Elt Ideal)) : after hostOps0_1 V (Proc.devRef .tc main_v25)
    = normArr (V (Proc.devRef .tc main_arg0)) (V (Proc.devRef .tc main_arg2)) (V (Proc.devRef .tc main_arg3))
        (V (Proc.devRef .tc main_v12_4)) (V (Proc.devRef .tc main_v2)) := by
  after_reads_simp
  rfl
theorem post_state (V : Valuation τ sig (Elt Ideal)) : after hostOps0_1 V (Proc.devRef .tc main_v12_3) = V (Proc.devRef .tc main_v12_3) :=
  after_of_writes_sub hostOps0_1 _ last_writes (by decide +kernel)

/-- A buffer the scan does not write is, when the scan is left, as it was entered. -/
theorem left_keep (r : Ref sig .tc) (h : r ∉ tripWrites) : left m c (Proc.devRef .tc r) = entry m c (Proc.devRef .tc r) := by
  have hc : r ∉ condOps_W := by
    simp only [tripWrites, List.mem_append, not_or] at h; exact h.1.1.1.1
  rw [left_eq, after_of_writes_sub _ _ condOps_writes hc, trips_keep m r h c 2000]
theorem left_arg (r : Ref sig .tc) (h : r ∉ tripWrites) (h' : r ∉ hostOps0_W) : left m c (Proc.devRef .tc r) = m ((c : Thread nD τ).loc r) :=
  (left_keep m c r h).trans (after_of_writes_sub hostOps0 _ hostOps0_writes h')

theorem left_stack (n : Fin 2000) (b : Fin 16) (f : Fin 257) :
    (left m c (Proc.devRef .tc main_v12_4) : FVec Ideal S2000x16x1x257x1 .f32) (ix5 n b 0 f 0) = state (argX m c) (argS m c) (argA m c) b f (n.val + 1) := by
  rw [left_eq]
  exact (congrFun (test_keep m c 2000 main_v12_4 (by decide)) (ix5 n b 0 f 0)).trans ((scan_apply m c 2000 (le_refl _) b f).2 n n.isLt)

theorem rootArr_apply (n : Fin 2000) (b : Fin 16) (f : Fin 257) : rootArr (left m c (Proc.devRef .tc main_v12_4)) (ix5 b 0 n f 0)
    = Ideal.sqrt (state (argX m c) (argS m c) (argA m c) b f (n.val + 1)) := by
  rw [← left_stack m c n b f]
  generalize (left m c (Proc.devRef .tc main_v12_4) : FVec Ideal S2000x16x1x257x1 .f32) = x
  refine congrArg Ideal.sqrt (transpose_apply _ _ _ _ (ix5 n b 0 f 0) fun a => ?_)
  fin_cases a <;> rfl

theorem divArr_apply (b : Fin 16) (ch : Fin 2) (n : Fin 2000) (f : Fin 257) :
    divArr (left m c (Proc.devRef .tc main_v12_4)) (powerArr (argX m c)) (ix5 b ch n f 0) = divisorOf (argX m c) (argS m c) (argA m c) b ch n f := by
  unfold divArr divisorOf
  by_cases h : ch = 0
  · subst h
    rw [if_pos rfl]
    refine (concatenate_pair_apply_left (t := S16x2x2000x257x1) (s₁ := S16x1x2000x257x1) (s₂ := S16x1x2000x257x1) (1 : Fin 5) _ _ _
      (ix5 b 0 n f 0) rfl (ix5 b 0 n f 0) fun a => ?_).trans (rootArr_apply m c n b f)
    match a with
    | ⟨0, _⟩ => rfl
    | ⟨1, _⟩ => rfl
    | ⟨2, _⟩ => rfl
    | ⟨3, _⟩ => rfl
    | ⟨4, _⟩ => rfl
  · obtain rfl : ch = 1 := Fin.eq_one_of_ne_zero ch h
    rw [if_neg h]
    refine (concatenate_pair_apply_right (t := S16x2x2000x257x1) (s₁ := S16x1x2000x257x1) (s₂ := S16x1x2000x257x1) (1 : Fin 5) _ _ _
      (ix5 b 1 n f 0) rfl rfl (ix5 b 0 n f 0) (fun a ha => ?_) rfl).trans (congrArg Ideal.sqrt ?_)
    · match a with
      | ⟨0, _⟩ => rfl
      | ⟨1, _⟩ => exact absurd rfl ha
      | ⟨2, _⟩ => rfl
      | ⟨3, _⟩ => rfl
      | ⟨4, _⟩ => rfl
    · refine (extractStridedSlice_apply _ _ _ _ (ix5 b 1 n f 0) fun a => ?_).trans (powerArr_apply _ _ _ _ _)
      match a with
      | ⟨0, _⟩ => show b.val = 0 + b.val; omega
      | ⟨1, _⟩ => rfl
      | ⟨2, _⟩ => show n.val = 0 + n.val; omega
      | ⟨3, _⟩ => show f.val = 0 + f.val; omega
      | ⟨4, _⟩ => rfl

theorem norm_apply : after hostOps0_1 (left m c) (Proc.devRef .tc main_v25) = resArr (argX m c) (argS m c) (argW m c) (argB m c) (argA m c) := by
  rw [post_norm, left_arg m c main_arg0 (by decide +kernel) (by decide +kernel), left_arg m c main_arg2 (by decide +kernel) (by decide +kernel),
    left_arg m c main_arg3 (by decide +kernel) (by decide +kernel), left_keep m c main_v2 (by decide +kernel), entry_power]
  funext j
  obtain ⟨b, ch, n, f, p, rfl⟩ := input_index j
  refine Eq.trans ?_ (normOf_eq (argX m c) (argS m c) (argW m c) (argB m c) (argA m c) b ch n f p).symm
  rw [← divArr_apply m c b ch n f]
  refine congrArg₂ (fun x y : EReal => x + y) (congrArg₂ (fun x y : EReal => x * y) (congrArg₂ Ideal.div rfl ?_) ?_) ?_
  · refine (broadcastInDim_apply _ _ _ _ (ix5 b ch n f 0) fun a => ?_).trans rfl
    fin_cases a <;> rfl
  · refine broadcastInDim_apply _ _ _ _ (ix5 0 ch 0 f 0) fun a => ?_
    fin_cases a <;> rfl
  · refine broadcastInDim_apply _ _ _ _ (ix5 0 ch 0 f 0) fun a => ?_
    fin_cases a <;> rfl

theorem smooth_apply : after hostOps0_1 (left m c) (Proc.devRef .tc main_v14) = smoothArr (argX m c) (argS m c) (argA m c) := by
  rw [post_root]
  funext j
  obtain ⟨b, n, f, rfl⟩ := smooth_index j
  exact rootArr_apply m c n b f

theorem last_apply : after hostOps0_1 (left m c) (Proc.devRef .tc main_v12_3) = lastArr (argX m c) (argS m c) (argA m c) := by
  rw [post_state]
  funext j
  obtain ⟨b, f, rfl⟩ := state_index j
  rw [left_eq]
  exact (congrFun (test_keep m c 2000 main_v12_3 (by decide)) (ix4 b 0 f 0)).trans (scan_apply m c 2000 (le_refl _) b f).1

theorem final_eq (r : Ref sig .tc) : finalContents condOps preI bodyI postI 2000 m c (Proc.devRef .tc r)
    = after hostOps0_1 (left m c) (Proc.devRef .tc r) := by
  rw [left_eq]
  rfl

/-- The run: the three results as specified, the arguments as they were. -/
theorem value_run :
    θ_run (defs (F := Ideal)) (onTc (τ := τ) (main (F := Ideal))) ⟨m, fun _ => 0, ρ⟩ (fun r => ∀ c : Dev nD,
      r.2.mem ((c.tc : Thread nD τ).loc main_v25) = resArr (argX m c) (argS m c) (argW m c) (argB m c) (argA m c)
      ∧ r.2.mem ((c.tc : Thread nD τ).loc main_v12_3) = lastArr (argX m c) (argS m c) (argA m c)
      ∧ r.2.mem ((c.tc : Thread nD τ).loc main_v14) = smoothArr (argX m c) (argS m c) (argA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (run_fold m ρ) fun r h c =>
    ⟨(h c main_v25 rfl).trans ((final_eq m c main_v25).trans (norm_apply m c)), (h c main_v12_3 rfl).trans ((final_eq m c main_v12_3).trans (last_apply m c)), (h c main_v14 rfl).trans ((final_eq m c main_v14).trans (smooth_apply m c)),
      (h c main_arg0 rfl).trans (final_arg m main_arg0 (by decide +kernel) (by decide +kernel) (by decide +kernel) c),
      (h c main_arg1 rfl).trans (final_arg m main_arg1 (by decide +kernel) (by decide +kernel) (by decide +kernel) c),
      (h c main_arg2 rfl).trans (final_arg m main_arg2 (by decide +kernel) (by decide +kernel) (by decide +kernel) c),
      (h c main_arg3 rfl).trans (final_arg m main_arg3 (by decide +kernel) (by decide +kernel) (by decide +kernel) c),
      (h c main_arg4 rfl).trans (final_arg m main_arg4 (by decide +kernel) (by decide +kernel) (by decide +kernel) c)⟩

end Cert.ReferenceIdeal.Hand

end
-- ==== Proof.lean ====
/-
  The proof of `Cert.Claim` (proofs.«01_k».proof.Defs): the frames of the three programs, the kernel kept as it was, and
  the three results of the kernel and the reference equal at the extended reals, both being the specified arrays.
-/
module

public import proofs.«01_k».proof.Defs
public import proofs.«01_k».proof.Proof.BitsBody
public import proofs.«01_k».proof.Proof.IdealResults
public import proofs.«01_k».proof.Proof.RefResults
public import proofs.«01_k».proof.Proof.Gen.ReferenceIdeal

@[expose] public section

noncomputable section

namespace Cert.Proof

open Idealize.ShloMosaic Idealize.ShloMosaic.TcCoe

instance pre_facts : Cert.Pre_state_nonneg.Facts := ⟨by decide⟩

attribute [local irreducible] Cert.Smooth.resArr Cert.Smooth.lastArr Cert.Smooth.smoothArr

/-- The precondition, element by element. -/
theorem state_of_pre (m : (ℓ : Loc Cert.KernelIdeal.nD Cert.KernelIdeal.τ Cert.KernelIdeal.sig) → Buf (Elt Ideal) ℓ)
    (h : Cert.Pre_KernelIdeal_state_nonneg m) (c : Dev Cert.KernelIdeal.nD) (j : Cert.KernelIdeal.S16x1x257x1.Idx) :
    (0 : EReal) ≤ Cert.KernelIdeal.Hand.argS m c j := by
  have h' : Ideal.cmp .oge (Cert.KernelIdeal.Hand.argS m c j) (Ideal.ofBits .f32 0x00000000#32) = 1#1 := congrFun (h c) j
  rw [Ideal.ofBits_zero_f32] at h'
  by_contra hn
  have hd : decide ((0 : EReal) ≤ Cert.KernelIdeal.Hand.argS m c j) = false := decide_eq_false hn
  have h2 : BitVec.ofBool (decide ((0 : EReal) ≤ Cert.KernelIdeal.Hand.argS m c j)) = 1#1 := h'
  rw [hd] at h2
  exact absurd h2 (by decide)

/-- Both programs end at the specified arrays. -/
theorem results_agree : Cert.algebraic_KernelIdeal_ReferenceIdeal_pre_state_nonneg := by
  intro m g m' g' hpre hag
  refine ⟨_, _, _, Cert.KernelIdeal.Hand.value_run m g (state_of_pre m hpre),
    θ_run_mono (Cert.ReferenceIdeal.Hand.value_run m' g') fun r h c => ?_⟩
  obtain ⟨e0, e1, e2, e3, e4⟩ := hag c
  obtain ⟨h0, h1, h2, hargs⟩ := h c
  refine ⟨h0.trans ?_, h1.trans ?_, h2.trans ?_, hargs⟩
  · show Cert.Smooth.resArr _ _ _ _ _ = Cert.Smooth.resArr _ _ _ _ _
    rw [show Cert.ReferenceIdeal.Hand.argX m' c = Cert.KernelIdeal.Hand.argX m c from e0,
      show Cert.ReferenceIdeal.Hand.argS m' c = Cert.KernelIdeal.Hand.argS m c from e1,
      show Cert.ReferenceIdeal.Hand.argW m' c = Cert.KernelIdeal.Hand.argW m c from e2,
      show Cert.ReferenceIdeal.Hand.argB m' c = Cert.KernelIdeal.Hand.argB m c from e3,
      show Cert.ReferenceIdeal.Hand.argA m' c = Cert.KernelIdeal.Hand.argA m c from e4]
  · show Cert.Smooth.lastArr _ _ _ = Cert.Smooth.lastArr _ _ _
    rw [show Cert.ReferenceIdeal.Hand.argX m' c = Cert.KernelIdeal.Hand.argX m c from e0,
      show Cert.ReferenceIdeal.Hand.argS m' c = Cert.KernelIdeal.Hand.argS m c from e1,
      show Cert.ReferenceIdeal.Hand.argA m' c = Cert.KernelIdeal.Hand.argA m c from e4]
  · show Cert.Smooth.smoothArr _ _ _ = Cert.Smooth.smoothArr _ _ _
    rw [show Cert.ReferenceIdeal.Hand.argX m' c = Cert.KernelIdeal.Hand.argX m c from e0,
      show Cert.ReferenceIdeal.Hand.argS m' c = Cert.KernelIdeal.Hand.argS m c from e1,
      show Cert.ReferenceIdeal.Hand.argA m' c = Cert.KernelIdeal.Hand.argA m c from e4]

theorem claim : Cert.Claim := ⟨Cert.Kernel.Gen.facts, Cert.KernelIdeal.Gen.facts, Cert.ReferenceIdeal.Gen.facts, pre_facts,
  fun m ρ _ => Cert.Kernel.Hand.frame_run m ρ,
  fun m ρ _ => Cert.KernelIdeal.Hand.frame_run m ρ,
  fun m ρ _ => Cert.KernelIdeal.Hand.frame_run m ρ,
  fun m ρ _ => Cert.ReferenceIdeal.Hand.frame_run m ρ,
  fun m ρ _ => Cert.ReferenceIdeal.Hand.frame_run m ρ,
  trivial, results_agree⟩

end Cert.Proof

end
